-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v61) = v2 c
          ∧ r.2.mem ((c.tc : Thread Cert.ReferenceIdeal.nD Cert.ReferenceIdeal.τ).loc Cert.ReferenceIdeal.main_v62) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x3072 : Shape := ⟨3, ![1, 256, 3072]⟩
abbrev S1536x8192 : Shape := ⟨2, ![1536, 8192]⟩
abbrev S24x8192 : Shape := ⟨2, ![24, 8192]⟩
abbrev S256x256 : Shape := ⟨2, ![256, 256]⟩
abbrev S256x3072 : Shape := ⟨2, ![256, 3072]⟩
abbrev S256x8192 : Shape := ⟨2, ![256, 8192]⟩
abbrev S256x1 : Shape := ⟨2, ![256, 1]⟩
abbrev S1536x512 : Shape := ⟨2, ![1536, 512]⟩
abbrev S24x512 : Shape := ⟨2, ![24, 512]⟩
abbrev S256x512 : Shape := ⟨2, ![256, 512]⟩
abbrev S512x3072 : Shape := ⟨2, ![512, 3072]⟩
abbrev S3072x512 : Shape := ⟨2, ![3072, 512]⟩
abbrev S256 : Shape := ⟨1, ![256]⟩
abbrev S64x512 : Shape := ⟨2, ![64, 512]⟩
abbrev S64x1x512 : Shape := ⟨3, ![64, 1, 512]⟩
abbrev S64x2x512 : Shape := ⟨3, ![64, 2, 512]⟩
abbrev S128x512 : Shape := ⟨2, ![128, 512]⟩
abbrev S1x512 : Shape := ⟨2, ![1, 512]⟩
abbrev S512x512 : Shape := ⟨2, ![512, 512]⟩

abbrev nBuf : Space → Nat
  | .hbm => 12
  | .vmem => 18
  | .smem => 0
  | _ => 0

abbrev bufTy : (tb : Table) → Fin (tcTables nBuf tb) → BufTy
  | .hbm, ⟨0, _⟩ => ⟨S1x256x3072, .bf16⟩
  | .hbm, ⟨1, _⟩ => ⟨S1x256x3072, .bf16⟩
  | .hbm, ⟨2, _⟩ => ⟨S1536x8192, .i8⟩
  | .hbm, ⟨3, _⟩ => ⟨S24x8192, .f32⟩
  | .hbm, ⟨4, _⟩ => ⟨S24x8192, .f32⟩
  | .hbm, ⟨5, _⟩ => ⟨S256x256, .bf16⟩
  | .hbm, ⟨6, _⟩ => ⟨S256x3072, .bf16⟩
  | .hbm, ⟨7, _⟩ => ⟨S256x3072, .bf16⟩
  | .hbm, ⟨8, _⟩ => ⟨S256x8192, .bf16⟩
  | .hbm, ⟨9, _⟩ => ⟨S256x8192, .bf16⟩
  | .hbm, ⟨10, _⟩ => ⟨S256x3072, .i8⟩
  | .hbm, ⟨11, _⟩ => ⟨S256x1, .f32⟩
  | .local _ .vmem, ⟨0, _⟩ => ⟨S256x3072, .bf16⟩
  | .local _ .vmem, ⟨1, _⟩ => ⟨S256x3072, .bf16⟩
  | .local _ .vmem, ⟨2, _⟩ => ⟨S256x256, .bf16⟩
  | .local _ .vmem, ⟨3, _⟩ => ⟨S1536x512, .i8⟩
  | .local _ .vmem, ⟨4, _⟩ => ⟨S1536x512, .i8⟩
  | .local _ .vmem, ⟨5, _⟩ => ⟨S24x512, .f32⟩
  | .local _ .vmem, ⟨6, _⟩ => ⟨S24x512, .f32⟩
  | .local _ .vmem, ⟨7, _⟩ => ⟨S24x512, .f32⟩
  | .local _ .vmem, ⟨8, _⟩ => ⟨S24x512, .f32⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x3072, .i8⟩
  | .local _ .vmem, ⟨14, _⟩ => ⟨S256x1, .f32⟩
  | .local _ .vmem, ⟨15, _⟩ => ⟨S512x3072, .bf16⟩
  | .local _ .vmem, ⟨16, _⟩ => ⟨S256x3072, .f32⟩
  | .local _ .vmem, ⟨17, _⟩ => ⟨S3072x512, .bf16⟩
  | _, _ => ⟨S1x256x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1536x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S24x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S24x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S256x3072 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S1x256x3072 : Shape := ⟨3, ![1, 256, 3072]⟩
abbrev S1536x8192 : Shape := ⟨2, ![1536, 8192]⟩
abbrev S24x8192 : Shape := ⟨2, ![24, 8192]⟩
abbrev S_ : Shape := ⟨0, ![]⟩
abbrev S1x1 : Shape := ⟨2, ![1, 1]⟩
abbrev S2x2 : Shape := ⟨2, ![2, 2]⟩
abbrev S2x1x2x1 : Shape := ⟨4, ![2, 1, 2, 1]⟩
abbrev S1x2x1x2 : Shape := ⟨4, ![1, 2, 1, 2]⟩
abbrev S2x2x2x2 : Shape := ⟨4, ![2, 2, 2, 2]⟩
abbrev S4x4 : Shape := ⟨2, ![4, 4]⟩
abbrev S4x1x4x1 : Shape := ⟨4, ![4, 1, 4, 1]⟩
abbrev S4x2x4x2 : Shape := ⟨4, ![4, 2, 4, 2]⟩
abbrev S8x8 : Shape := ⟨2, ![8, 8]⟩
abbrev S8x1x8x1 : Shape := ⟨4, ![8, 1, 8, 1]⟩
abbrev S8x2x8x2 : Shape := ⟨4, ![8, 2, 8, 2]⟩
abbrev S16x16 : Shape := ⟨2, ![16, 16]⟩
abbrev S16x1x16x1 : Shape := ⟨4, ![16, 1, 16, 1]⟩
abbrev S16x2x16x2 : Shape := ⟨4, ![16, 2, 16, 2]⟩
abbrev S32x32 : Shape := ⟨2, ![32, 32]⟩
abbrev S32x1x32x1 : Shape := ⟨4, ![32, 1, 32, 1]⟩
abbrev S32x2x32x2 : Shape := ⟨4, ![32, 2, 32, 2]⟩
abbrev S64x64 : Shape := ⟨2, ![64, 64]⟩
abbrev S64x1x64x1 : Shape := ⟨4, ![64, 1, 64, 1]⟩
abbrev S64x2x64x2 : Shape := ⟨4, ![64, 2, 64, 2]⟩
abbrev S128x128 : Shape := ⟨2, ![128, 128]⟩
abbrev S1x256x24x128 : Shape := ⟨4, ![1, 256, 24, 128]⟩
abbrev S1x256 : Shape := ⟨2, ![1, 256]⟩
abbrev S1x256x1 : Shape := ⟨3, ![1, 256, 1]⟩
abbrev S2x256x3072 : Shape := ⟨3, ![2, 256, 3072]⟩
abbrev S2x256x1536x2 : Shape := ⟨4, ![2, 256, 1536, 2]⟩
abbrev S1x1536x8192 : Shape := ⟨3, ![1, 1536, 8192]⟩
abbrev S2x1536x8192 : Shape := ⟨3, ![2, 1536, 8192]⟩
abbrev S2x24x64x8192 : Shape := ⟨4, ![2, 24, 64, 8192]⟩
abbrev S1x24x1x8192 : Shape := ⟨4, ![1, 24, 1, 8192]⟩
abbrev S2x256x8192 : Shape := ⟨3, ![2, 256, 8192]⟩
abbrev S1x256x8192 : Shape := ⟨3, ![1, 256, 8192]⟩
abbrev S256x8192 : Shape := ⟨2, ![256, 8192]⟩
abbrev S256x3072 : Shape := ⟨2, ![256, 3072]⟩
abbrev S256x1 : Shape := ⟨2, ![256, 1]⟩

abbrev nBuf : Space → Nat
  | .hbm => 138
  | .vmem => 4
  | .smem => 0
  | _ => 0

abbrev hbmTy0_0 (i : Nat) : BufTy := match i % 128 with
  | 0 => ⟨S1x256x3072, .bf16⟩
  | 1 => ⟨S1x256x3072, .bf16⟩
  | 2 => ⟨S1536x8192, .i8⟩
  | 3 => ⟨S24x8192, .f32⟩
  | 4 => ⟨S24x8192, .f32⟩
  | 5 => ⟨S_, .f32⟩
  | 6 => ⟨S1x1, .f32⟩
  | 7 => ⟨S_, .f32⟩
  | 8 => ⟨S2x2, .f32⟩
  | 9 => ⟨S2x1x2x1, .f32⟩
  | 10 => ⟨S1x2x1x2, .f32⟩
  | 11 => ⟨S2x2x2x2, .f32⟩
  | 12 => ⟨S2x2x2x2, .f32⟩
  | 13 => ⟨S2x2x2x2, .f32⟩
  | 14 => ⟨S4x4, .f32⟩
  | 15 => ⟨S4x1x4x1, .f32⟩
  | 16 => ⟨S1x2x1x2, .f32⟩
  | 17 => ⟨S4x2x4x2, .f32⟩
  | 18 => ⟨S4x2x4x2, .f32⟩
  | 19 => ⟨S4x2x4x2, .f32⟩
  | 20 => ⟨S8x8, .f32⟩
  | 21 => ⟨S8x1x8x1, .f32⟩
  | 22 => ⟨S1x2x1x2, .f32⟩
  | 23 => ⟨S8x2x8x2, .f32⟩
  | 24 => ⟨S8x2x8x2, .f32⟩
  | 25 => ⟨S8x2x8x2, .f32⟩
  | 26 => ⟨S16x16, .f32⟩
  | 27 => ⟨S16x1x16x1, .f32⟩
  | 28 => ⟨S1x2x1x2, .f32⟩
  | 29 => ⟨S16x2x16x2, .f32⟩
  | 30 => ⟨S16x2x16x2, .f32⟩
  | 31 => ⟨S16x2x16x2, .f32⟩
  | 32 => ⟨S32x32, .f32⟩
  | 33 => ⟨S32x1x32x1, .f32⟩
  | 34 => ⟨S1x2x1x2, .f32⟩
  | 35 => ⟨S32x2x32x2, .f32⟩
  | 36 => ⟨S32x2x32x2, .f32⟩
  | 37 => ⟨S32x2x32x2, .f32⟩
  | 38 => ⟨S64x64, .f32⟩
  | 39 => ⟨S64x1x64x1, .f32⟩
  | 40 => ⟨S1x2x1x2, .f32⟩
  | 41 => ⟨S64x2x64x2, .f32⟩
  | 42 => ⟨S64x2x64x2, .f32⟩
  | 43 => ⟨S64x2x64x2, .f32⟩
  | 44 => ⟨S128x128, .f32⟩
  | 45 => ⟨S_, .f32⟩
  | 46 => ⟨S128x128, .f32⟩
  | 47 => ⟨S128x128, .f32⟩
  | 48 => ⟨S1x256x3072, .f32⟩
  | 49 => ⟨S1x256x24x128, .f32⟩
  | 50 => ⟨S1x256x24x128, .f32⟩
  | 51 => ⟨S1x256x3072, .f32⟩
  | 52 => ⟨S1x256x3072, .i8⟩
  | 53 => ⟨S1x256x3072, .bf16⟩
  | 54 => ⟨S1x256, .f32⟩
  | 55 => ⟨S_, .f32⟩
  | 56 => ⟨S1x1, .f32⟩
  | 57 => ⟨S_, .f32⟩
  | 58 => ⟨S2x2, .f32⟩
  | 59 => ⟨S2x1x2x1, .f32⟩
  | 60 => ⟨S1x2x1x2, .f32⟩
  | 61 => ⟨S2x2x2x2, .f32⟩
  | 62 => ⟨S2x2x2x2, .f32⟩
  | 63 => ⟨S2x2x2x2, .f32⟩
  | 64 => ⟨S4x4, .f32⟩
  | 65 => ⟨S4x1x4x1, .f32⟩
  | 66 => ⟨S1x2x1x2, .f32⟩
  | 67 => ⟨S4x2x4x2, .f32⟩
  | 68 => ⟨S4x2x4x2, .f32⟩
  | 69 => ⟨S4x2x4x2, .f32⟩
  | 70 => ⟨S8x8, .f32⟩
  | 71 => ⟨S8x1x8x1, .f32⟩
  | 72 => ⟨S1x2x1x2, .f32⟩
  | 73 => ⟨S8x2x8x2, .f32⟩
  | 74 => ⟨S8x2x8x2, .f32⟩
  | 75 => ⟨S8x2x8x2, .f32⟩
  | 76 => ⟨S16x16, .f32⟩
  | 77 => ⟨S16x1x16x1, .f32⟩
  | 78 => ⟨S1x2x1x2, .f32⟩
  | 79 => ⟨S16x2x16x2, .f32⟩
  | 80 => ⟨S16x2x16x2, .f32⟩
  | 81 => ⟨S16x2x16x2, .f32⟩
  | 82 => ⟨S32x32, .f32⟩
  | 83 => ⟨S32x1x32x1, .f32⟩
  | 84 => ⟨S1x2x1x2, .f32⟩
  | 85 => ⟨S32x2x32x2, .f32⟩
  | 86 => ⟨S32x2x32x2, .f32⟩
  | 87 => ⟨S32x2x32x2, .f32⟩
  | 88 => ⟨S64x64, .f32⟩
  | 89 => ⟨S64x1x64x1, .f32⟩
  | 90 => ⟨S1x2x1x2, .f32⟩
  | 91 => ⟨S64x2x64x2, .f32⟩
  | 92 => ⟨S64x2x64x2, .f32⟩
  | 93 => ⟨S64x2x64x2, .f32⟩
  | 94 => ⟨S128x128, .f32⟩
  | 95 => ⟨S_, .f32⟩
  | 96 => ⟨S128x128, .f32⟩
  | 97 => ⟨S128x128, .f32⟩
  | 98 => ⟨S1x256x3072, .f32⟩
  | 99 => ⟨S1x256x24x128, .f32⟩
  | 100 => ⟨S1x256x24x128, .f32⟩
  | 101 => ⟨S1x256x3072, .f32⟩
  | 102 => ⟨S1x256x3072, .bf16⟩
  | 103 => ⟨S2x256x3072, .bf16⟩
  | 104 => ⟨S2x256x1536x2, .bf16⟩
  | 105 => ⟨S1536x8192, .i32⟩
  | 106 => ⟨S_, .i32⟩
  | 107 => ⟨S1536x8192, .i32⟩
  | 108 => ⟨S1536x8192, .i32⟩
  | 109 => ⟨S_, .i32⟩
  | 110 => ⟨S1536x8192, .i32⟩
  | 111 => ⟨S1536x8192, .i32⟩
  | 112 => ⟨S1x1536x8192, .i32⟩
  | 113 => ⟨S1x1536x8192, .i32⟩
  | 114 => ⟨S2x1536x8192, .i32⟩
  | 115 => ⟨S2x1536x8192, .bf16⟩
  | 116 => ⟨S2x24x64x8192, .bf16⟩
  | 117 => ⟨S24x8192, .bf16⟩
  | 118 => ⟨S1x24x1x8192, .bf16⟩
  | 119 => ⟨S24x8192, .bf16⟩
  | 120 => ⟨S1x24x1x8192, .bf16⟩
  | 121 => ⟨S2x24x64x8192, .bf16⟩
  | 122 => ⟨S2x24x64x8192, .bf16⟩
  | 123 => ⟨S2x24x64x8192, .bf16⟩
  | 124 => ⟨S2x24x64x8192, .bf16⟩
  | 125 => ⟨S2x1536x8192, .bf16⟩
  | 126 => ⟨S2x256x8192, .f32⟩
  | 127 => ⟨S1x256x8192, .f32⟩
  | _ => ⟨S1x256x3072, .bf16⟩

abbrev hbmTy0_1 (i : Nat) : BufTy := match i % 128 with
  | 0 => ⟨S1x256x8192, .f32⟩
  | 1 => ⟨S1x256x1, .f32⟩
  | 2 => ⟨S1x256x8192, .f32⟩
  | 3 => ⟨S1x256x8192, .f32⟩
  | 4 => ⟨S1x256x8192, .bf16⟩
  | 5 => ⟨S1x256x8192, .bf16⟩
  | 6 => ⟨S256x8192, .bf16⟩
  | 7 => ⟨S256x8192, .bf16⟩
  | 8 => ⟨S256x3072, .i8⟩
  | 9 => ⟨S256x1, .f32⟩
  | _ => ⟨S1x256x3072, .bf16⟩

abbrev hbmTy (i : Nat) : BufTy := match i / 128 with
  | 0 => hbmTy0_0 i
  | 1 => hbmTy0_1 i
  | _ => ⟨S1x256x3072, .bf16⟩

abbrev bufTy : (tb : Table) → Fin (tcTables nBuf tb) → BufTy
  | .hbm, ⟨i, _⟩ => hbmTy i
  | .local _ .vmem, ⟨0, _⟩ => ⟨S1x256x3072, .f32⟩
  | .local _ .vmem, ⟨1, _⟩ => ⟨S1x256x3072, .i8⟩
  | .local _ .vmem, ⟨2, _⟩ => ⟨S1x256x3072, .bf16⟩
  | .local _ .vmem, ⟨3, _⟩ => ⟨S1x256, .f32⟩
  | _, _ => ⟨S1x256x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v2 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v3 : Ref sig .tc := ⟨.hbm, 20, rfl⟩
abbrev main_call2_v0 : Ref sig .tc := ⟨.hbm, 21, rfl⟩
abbrev main_call2_v1 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_v4 : Ref sig .tc := ⟨.hbm, 26, rfl⟩
abbrev main_call3_v0 : Ref sig .tc := ⟨.hbm, 27, rfl⟩
abbrev main_call3_v1 : Ref sig .tc := ⟨.hbm, 28, rfl⟩
abbrev main_call3_v2 : Ref sig .tc := ⟨.hbm, 29, rfl⟩
abbrev main_call3_v3 : Ref sig .tc := ⟨.hbm, 30, rfl⟩
abbrev main_call3_v4 : Ref sig .tc := ⟨.hbm, 31, rfl⟩
abbrev main_v5 : Ref sig .tc := ⟨.hbm, 32, rfl⟩
abbrev main_call4_v0 : Ref sig .tc := ⟨.hbm, 33, rfl⟩
abbrev main_call4_v1 : Ref sig .tc := ⟨.hbm, 34, rfl⟩
abbrev main_call4_v2 : Ref sig .tc := ⟨.hbm, 35, rfl⟩
abbrev main_call4_v3 : Ref sig .tc := ⟨.hbm, 36, rfl⟩
abbrev main_call4_v4 : Ref sig .tc := ⟨.hbm, 37, rfl⟩
abbrev main_v6 : Ref sig .tc := ⟨.hbm, 38, rfl⟩
abbrev main_call5_v0 : Ref sig .tc := ⟨.hbm, 39, rfl⟩
abbrev main_call5_v1 : Ref sig .tc := ⟨.hbm, 40, rfl⟩
abbrev main_call5_v2 : Ref sig .tc := ⟨.hbm, 41, rfl⟩
abbrev main_call5_v3 : Ref sig .tc := ⟨.hbm, 42, rfl⟩
abbrev main_call5_v4 : Ref sig .tc := ⟨.hbm, 43, rfl⟩
abbrev main_v7 : Ref sig .tc := ⟨.hbm, 44, rfl⟩
abbrev main_cst_1 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14_0 : Ref sig .tc := ⟨.hbm, 52, rfl⟩
abbrev main_v14_1 : Ref sig .tc := ⟨.hbm, 53, rfl⟩
abbrev main_v14_2 : Ref sig .tc := ⟨.hbm, 54, rfl⟩
abbrev main_cst_2 : Ref sig .tc := ⟨.hbm, 55, rfl⟩
abbrev main_v15 : Ref sig .tc := ⟨.hbm, 56, rfl⟩
abbrev main_cst_3 : Ref sig .tc := ⟨.hbm, 57, rfl⟩
abbrev main_v16 : Ref sig .tc := ⟨.hbm, 58, rfl⟩
abbrev main_call6_v0 : Ref sig .tc := ⟨.hbm, 59, rfl⟩
abbrev main_call6_v1 : Ref sig .tc := ⟨.hbm, 60, rfl⟩
abbrev main_call6_v2 : Ref sig .tc := ⟨.hbm, 61, rfl⟩
abbrev main_call6_v3 : Ref sig .tc := ⟨.hbm, 62, rfl⟩
abbrev main_call6_v4 : Ref sig .tc := ⟨.hbm, 63, rfl⟩
abbrev main_v17 : Ref sig .tc := ⟨.hbm, 64, rfl⟩
abbrev main_call7_v0 : Ref sig .tc := ⟨.hbm, 65, rfl⟩
abbrev main_call7_v1 : Ref sig .tc := ⟨.hbm, 66, rfl⟩
abbrev main_call7_v2 : Ref sig .tc := ⟨.hbm, 67, rfl⟩
abbrev main_call7_v3 : Ref sig .tc := ⟨.hbm, 68, rfl⟩
abbrev main_call7_v4 : Ref sig .tc := ⟨.hbm, 69, rfl⟩
abbrev main_v18 : Ref sig .tc := ⟨.hbm, 70, rfl⟩
abbrev main_call8_v0 : Ref sig .tc := ⟨.hbm, 71, rfl⟩
abbrev main_call8_v1 : Ref sig .tc := ⟨.hbm, 72, rfl⟩
abbrev main_call8_v2 : Ref sig .tc := ⟨.hbm, 73, rfl⟩
abbrev main_call8_v3 : Ref sig .tc := ⟨.hbm, 74, rfl⟩
abbrev main_call8_v4 : Ref sig .tc := ⟨.hbm, 75, rfl⟩
abbrev main_v19 : Ref sig .tc := ⟨.hbm, 76, rfl⟩
abbrev main_call9_v0 : Ref sig .tc := ⟨.hbm, 77, rfl⟩
abbrev main_call9_v1 : Ref sig .tc := ⟨.hbm, 78, rfl⟩
abbrev main_call9_v2 : Ref sig .tc := ⟨.hbm, 79, rfl⟩
abbrev main_call9_v3 : Ref sig .tc := ⟨.hbm, 80, rfl⟩
abbrev main_call9_v4 : Ref sig .tc := ⟨.hbm, 81, rfl⟩
abbrev main_v20 : Ref sig .tc := ⟨.hbm, 82, rfl⟩
abbrev main_call10_v0 : Ref sig .tc := ⟨.hbm, 83, rfl⟩
abbrev main_call10_v1 : Ref sig .tc := ⟨.hbm, 84, rfl⟩
abbrev main_call10_v2 : Ref sig .tc := ⟨.hbm, 85, rfl⟩
abbrev main_call10_v3 : Ref sig .tc := ⟨.hbm, 86, rfl⟩
abbrev main_call10_v4 : Ref sig .tc := ⟨.hbm, 87, rfl⟩
abbrev main_v21 : Ref sig .tc := ⟨.hbm, 88, rfl⟩
abbrev main_call11_v0 : Ref sig .tc := ⟨.hbm, 89, rfl⟩
abbrev main_call11_v1 : Ref sig .tc := ⟨.hbm, 90, rfl⟩
abbrev main_call11_v2 : Ref sig .tc := ⟨.hbm, 91, rfl⟩
abbrev main_call11_v3 : Ref sig .tc := ⟨.hbm, 92, rfl⟩
abbrev main_call11_v4 : Ref sig .tc := ⟨.hbm, 93, rfl⟩
abbrev main_v22 : Ref sig .tc := ⟨.hbm, 94, rfl⟩
abbrev main_cst_4 : Ref sig .tc := ⟨.hbm, 95, rfl⟩
abbrev main_v23 : Ref sig .tc := ⟨.hbm, 96, rfl⟩
abbrev main_v24 : Ref sig .tc := ⟨.hbm, 97, rfl⟩
abbrev main_v25 : Ref sig .tc := ⟨.hbm, 98, rfl⟩
abbrev main_v26 : Ref sig .tc := ⟨.hbm, 99, rfl⟩
abbrev main_v27 : Ref sig .tc := ⟨.hbm, 100, rfl⟩
abbrev main_v28 : Ref sig .tc := ⟨.hbm, 101, rfl⟩
abbrev main_v29 : Ref sig .tc := ⟨.hbm, 102, rfl⟩
abbrev main_v30 : Ref sig .tc := ⟨.hbm, 103, rfl⟩
abbrev main_v31 : Ref sig .tc := ⟨.hbm, 104, rfl⟩
abbrev main_v32 : Ref sig .tc := ⟨.hbm, 105, rfl⟩
abbrev main_c : Ref sig .tc := ⟨.hbm, 106, rfl⟩
abbrev main_v33 : Ref sig .tc := ⟨.hbm, 107, rfl⟩
abbrev main_v34 : Ref sig .tc := ⟨.hbm, 108, rfl⟩
abbrev main_c_5 : Ref sig .tc := ⟨.hbm, 109, rfl⟩
abbrev main_v35 : Ref sig .tc := ⟨.hbm, 110, rfl⟩
abbrev main_v36 : Ref sig .tc := ⟨.hbm, 111, rfl⟩
abbrev main_v37 : Ref sig .tc := ⟨.hbm, 112, rfl⟩
abbrev main_v38 : Ref sig .tc := ⟨.hbm, 113, rfl⟩
abbrev main_v39 : Ref sig .tc := ⟨.hbm, 114, rfl⟩
abbrev main_v40 : Ref sig .tc := ⟨.hbm, 115, rfl⟩
abbrev main_v41 : Ref sig .tc := ⟨.hbm, 116, rfl⟩
abbrev main_v42 : Ref sig .tc := ⟨.hbm, 117, rfl⟩
abbrev main_v43 : Ref sig .tc := ⟨.hbm, 118, rfl⟩
abbrev main_v44 : Ref sig .tc := ⟨.hbm, 119, rfl⟩
abbrev main_v45 : Ref sig .tc := ⟨.hbm, 120, rfl⟩
abbrev main_v46 : Ref sig .tc := ⟨.hbm, 121, rfl⟩
abbrev main_v47 : Ref sig .tc := ⟨.hbm, 122, rfl⟩
abbrev main_v48 : Ref sig .tc := ⟨.hbm, 123, rfl⟩
abbrev main_v49 : Ref sig .tc := ⟨.hbm, 124, rfl⟩
abbrev main_v50 : Ref sig .tc := ⟨.hbm, 125, rfl⟩
abbrev main_v51 : Ref sig .tc := ⟨.hbm, 126, rfl⟩
abbrev main_v52 : Ref sig .tc := ⟨.hbm, 127, rfl⟩
abbrev main_v53 : Ref sig .tc := ⟨.hbm, 128, rfl⟩
abbrev main_v54 : Ref sig .tc := ⟨.hbm, 129, rfl⟩
abbrev main_v55 : Ref sig .tc := ⟨.hbm, 130, rfl⟩
abbrev main_v56 : Ref sig .tc := ⟨.hbm, 131, rfl⟩
abbrev main_v57 : Ref sig .tc := ⟨.hbm, 132, rfl⟩
abbrev main_v58 : Ref sig .tc := ⟨.hbm, 133, rfl⟩
abbrev main_v59 : Ref sig .tc := ⟨.hbm, 134, rfl⟩
abbrev main_v60 : Ref sig .tc := ⟨.hbm, 135, rfl⟩
abbrev main_v61 : Ref sig .tc := ⟨.hbm, 136, rfl⟩
abbrev main_v62 : Ref sig .tc := ⟨.hbm, 137, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S1x256x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256x3072 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x256x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Shared.lean ====
/- What the two runs of the kernel body share: the condition of its one branch over the grid points, where its windows are idle, and the names of the
   staging and scratch buffers. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, k0_cond1, e0]
    word_cmp
   : ∀ t : Fin grid0.N, cond0_0 (grid0.coords t) ↔ t.val % 16 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an output stored at every point, under no condition). -/
theorem liveAt0_6 : ∀ t : Fin cfg0.N, cfg0.idle 6 (grid0.coords t) = false := fun _ => rfl
/-- Window 7 is never idle (an output stored at every point, under no condition). -/
theorem liveAt0_7 : ∀ t : Fin cfg0.N, cfg0.idle 7 (grid0.coords t) = false := fun _ => rfl
/-- At the first point the codes' and the scale's windows are live: the body stores into them there. -/
theorem liveAt0_8_A : ∀ t : Fin cfg0.N, cond0_0 (grid0.coords t) → cfg0.idle 8 (grid0.coords t) = false := by decide +kernel
theorem liveAt0_9_A : ∀ t : Fin cfg0.N, cond0_0 (grid0.coords t) → cfg0.idle 9 (grid0.coords t) = false := by decide +kernel
/-- At every later point they are idle. -/
theorem idleAt0_8_B : ∀ t : Fin cfg0.N, ¬cond0_0 (grid0.coords t) → cfg0.idle 8 (grid0.coords t) = true := by decide +kernel
theorem idleAt0_9_B : ∀ t : Fin cfg0.N, ¬cond0_0 (grid0.coords t) → cfg0.idle 9 (grid0.coords t) = true := by decide +kernel

/-! ## The kernel body on any staging memrefs: a subtype the run finds -/

/-- One staging buffer of output window 6, through which its contents are stated (`View.read_writes_of_cover`: the
    choice does not matter). -/
abbrev VO0_6 : View sig .tc .vmem S256x512 .bf16 := (Memref.whole cc0_stg6_0 : Memref sig .tc .vmem S256x512 .bf16).view
/-- One staging buffer of output window 7, through which its contents are stated (`View.read_writes_of_cover`: the
    choice does not matter). -/
abbrev VO0_7 : View sig .tc .vmem S256x512 .bf16 := (Memref.whole cc0_stg7_0 : Memref sig .tc .vmem S256x512 .bf16).view
/-- One staging buffer of output window 8, through which its contents are stated (`View.read_writes_of_cover`: the
    choice does not matter). -/
abbrev VO0_8 : View sig .tc .vmem S256x3072 .i8 := (Memref.whole cc0_stg8_0 : Memref sig .tc .vmem S256x3072 .i8).view
/-- One staging buffer of output window 9, through which its contents are stated (`View.read_writes_of_cover`: the
    choice does not matter). -/
abbrev VO0_9 : View sig .tc .vmem S256x1 .f32 := (Memref.whole cc0_stg9_0 : Memref sig .tc .vmem S256x1 .f32).view
/-- Each window's current staging memref at point `t`, spelled as the pipeline passes it (`bodyAt0`), and its wholeness. -/
abbrev ms0_0 (t : Fin cfg0.N) : Memref sig .tc .vmem S256x3072 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x3072 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1536x512 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S24x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S24x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x3072 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x1 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S512x3072 .bf16 := Memref.whole cc0_scratch0
abbrev scM0_1 : Memref sig .tc .vmem S256x3072 .f32 := Memref.whole cc0_scratch1
abbrev scM0_2 : Memref sig .tc .vmem S3072x512 .bf16 := Memref.whole cc0_scratch2
/-- The scratch `arg11` the kernel carries between points, as a view: what it holds is stated through it. -/
abbrev VS0_0 : View sig .tc .vmem S512x3072 .bf16 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Body

end
-- ==== Proof.RunA.lean ====
/- The run of the kernel body at the first grid point. -/
module

public import proofs.«01_k».proof.Proof.Shared

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1704000 in
/-- THE BODY AT THE FIRST POINT: on whole staging buffers, the inputs' at their contents, the outputs' and the scratch at anything, the body runs and leaves
    the inputs as they were and each other buffer with a list of pieces written (last first): `L6`, `L7` the two products, `L8` the codes, `L9` the scale,
    `LS0` the rotated rows, `LT1` the rotated first operand, `LT2` the weights. The pieces are the witness the run finds. -/
noncomputable def kernelRun0_A (c : Dev nD) (i : grid0.Coords) (arg1 : Memref sig .tc .vmem S256x3072 .bf16) (harg1 : arg1.IsWhole) (arg2 : Memref sig .tc .vmem S256x3072 .bf16) (harg2 : arg2.IsWhole) (arg3 : Memref sig .tc .vmem S256x256 .bf16) (harg3 : arg3.IsWhole) (arg4 : Memref sig .tc .vmem S1536x512 .i8) (harg4 : arg4.IsWhole) (arg5 : Memref sig .tc .vmem S24x512 .f32) (harg5 : arg5.IsWhole) (arg6 : Memref sig .tc .vmem S24x512 .f32) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x3072 .i8) (harg9 : arg9.IsWhole) (arg10 : Memref sig .tc .vmem S256x1 .f32) (harg10 : arg10.IsWhole) (arg11 : Memref sig .tc .vmem S512x3072 .bf16) (harg11 : arg11.IsWhole) (arg12 : Memref sig .tc .vmem S256x3072 .f32) (harg12 : arg12.IsWhole) (arg13 : Memref sig .tc .vmem S3072x512 .bf16) (harg13 : arg13.IsWhole) (hc0 : cond0_0 i)
    (x0 : Vec F S256x3072 .bf16) (x1 : Vec F S256x3072 .bf16) (x2 : Vec F S256x256 .bf16) (x3 : Vec F S1536x512 .i8) (x4 : Vec F S24x512 .f32) (x5 : Vec F S24x512 .f32) :
    Σ' (L6 : List (View.Piece (Elt F) S256x512 .bf16)), Σ' (L7 : List (View.Piece (Elt F) S256x512 .bf16)), Σ' (L8 : List (View.Piece (Elt F) S256x3072 .i8)), Σ' (L9 : List (View.Piece (Elt F) S256x1 .f32)), Σ' (LS0 : List (View.Piece (Elt F) S512x3072 .bf16)), Σ' (LT1 : List (View.Piece (Elt F) S256x3072 .f32)), { LT2 : List (View.Piece (Elt F) S3072x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LT1) ∗ (∃ f, arg13.view.loc (c : Thread nD τ) ↦[arg13.view.set]{fullShare} arg13.view.writes (Elt F) f LT2)) -∗ K ⟨⟩))
          ⊢ wp frame (wpE (defs₀ (F := F)) Variants.none c none) E (cc0_qspec_linear i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, ?_, fun E K => ?run⟩
  case run =>
    simp only [cc0_qspec_linear_eq_skeleton]; unfold cc0_qspec_linear_skel
    simp only [k0_part14_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [H9]; · iexists _; iexact H9
    isplitl [HS0]; · iexists _; iexact HS0
    isplitl [HS1]; · iexists _; iexact HS1
    iexists _; iexact HS2

end Cert.KernelIdeal.Body

end
-- ==== Proof.RunB.lean ====
/- The run of the kernel body at every later grid point. -/
module

public import proofs.«01_k».proof.Proof.RunA

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- THE BODY AT A LATER POINT: the codes, the scale and the rotated rows are what the first point left, at `xo8`, `xo9` and `xs0`, and stay; the two products
    (`L6`, `L7`) and the weights (`LT2`) are written. The pieces are the witness the run finds. -/
noncomputable def kernelRun0_B (c : Dev nD) (i : grid0.Coords) (arg1 : Memref sig .tc .vmem S256x3072 .bf16) (harg1 : arg1.IsWhole) (arg2 : Memref sig .tc .vmem S256x3072 .bf16) (harg2 : arg2.IsWhole) (arg3 : Memref sig .tc .vmem S256x256 .bf16) (harg3 : arg3.IsWhole) (arg4 : Memref sig .tc .vmem S1536x512 .i8) (harg4 : arg4.IsWhole) (arg5 : Memref sig .tc .vmem S24x512 .f32) (harg5 : arg5.IsWhole) (arg6 : Memref sig .tc .vmem S24x512 .f32) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x3072 .i8) (harg9 : arg9.IsWhole) (arg10 : Memref sig .tc .vmem S256x1 .f32) (harg10 : arg10.IsWhole) (arg11 : Memref sig .tc .vmem S512x3072 .bf16) (harg11 : arg11.IsWhole) (arg12 : Memref sig .tc .vmem S256x3072 .f32) (harg12 : arg12.IsWhole) (arg13 : Memref sig .tc .vmem S3072x512 .bf16) (harg13 : arg13.IsWhole) (hc0 : ¬cond0_0 i)
    (x0 : Vec F S256x3072 .bf16) (x1 : Vec F S256x3072 .bf16) (x2 : Vec F S256x256 .bf16) (x3 : Vec F S1536x512 .i8) (x4 : Vec F S24x512 .f32) (x5 : Vec F S24x512 .f32) (xo8 : Vec F S256x3072 .i8) (xo9 : Vec F S256x1 .f32) (xs0 : Vec F S512x3072 .bf16) :
    Σ' (L6 : List (View.Piece (Elt F) S256x512 .bf16)), Σ' (L7 : List (View.Piece (Elt F) S256x512 .bf16)), { LT2 : List (View.Piece (Elt F) S3072x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xo8 ∗ owns (c : Thread nD τ) arg10 fullShare xo9 ∗ owns (c : Thread nD τ) arg11 fullShare xs0 ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ owns (c : Thread nD τ) arg9 fullShare xo8 ∗ owns (c : Thread nD τ) arg10 fullShare xo9 ∗ owns (c : Thread nD τ) arg11 fullShare xs0 ∗ (∃ d, owns (c : Thread nD τ) arg12 fullShare d) ∗ (∃ f, arg13.view.loc (c : Thread nD τ) ↦[arg13.view.set]{fullShare} arg13.view.writes (Elt F) f LT2)) -∗ K ⟨⟩))
          ⊢ wp frame (wpE (defs₀ (F := F)) Variants.none c none) E (cc0_qspec_linear i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_qspec_linear_eq_skeleton]; unfold cc0_qspec_linear_skel
    simp only [k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, ⟨%fs0, %hfs0, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hf8; obtain rfl := harg10.eq_unread hf9; obtain rfl := harg11.eq_unread hfs0
    sl_exec (disch := sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]
    · iexists _; isplitr; · ipureintro; exact harg9.read_unread _
      iexact H8
    isplitl [H9]
    · iexists _; isplitr; · ipureintro; exact harg10.read_unread _
      iexact H9
    isplitl [HS0]
    · iexists _; isplitr; · ipureintro; exact harg11.read_unread _
      iexact HS0
    isplitl [HS1]
    · iexists _, _; isplitr; swap; · iexact HS1
      ipureintro; rfl
    iexists _; iexact HS2

end Cert.KernelIdeal.Body

end
-- ==== Proof.Cover.lean ====
/- The stores of one grid point cover every output block, and at the first grid point the rows' scratch buffer. -/
module

public import proofs.«01_k».proof.Proof.RunB
public import Idealize.ShloMosaic.Lib.Pipeline.ValueKit

@[expose] public section

set_option maxRecDepth 16384

noncomputable section

namespace Cert.KernelIdeal.Cover

open Cert.KernelIdeal Cert.KernelIdeal.Gen Cert.KernelIdeal.Body
open Idealize.ShloMosaic Idealize.ShloMosaic.TcCoe

variable {F : FTy → Type} [FloatOps F]

section
variable (c : Dev nD) (i : grid0.Coords) (arg1 : Memref sig .tc .vmem S256x3072 .bf16) (harg1 : arg1.IsWhole) (arg2 : Memref sig .tc .vmem S256x3072 .bf16) (harg2 : arg2.IsWhole) (arg3 : Memref sig .tc .vmem S256x256 .bf16) (harg3 : arg3.IsWhole) (arg4 : Memref sig .tc .vmem S1536x512 .i8) (harg4 : arg4.IsWhole) (arg5 : Memref sig .tc .vmem S24x512 .f32) (harg5 : arg5.IsWhole) (arg6 : Memref sig .tc .vmem S24x512 .f32) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x3072 .i8) (harg9 : arg9.IsWhole) (arg10 : Memref sig .tc .vmem S256x1 .f32) (harg10 : arg10.IsWhole) (arg11 : Memref sig .tc .vmem S512x3072 .bf16) (harg11 : arg11.IsWhole) (arg12 : Memref sig .tc .vmem S256x3072 .f32) (harg12 : arg12.IsWhole) (arg13 : Memref sig .tc .vmem S3072x512 .bf16) (harg13 : arg13.IsWhole)
  (x0 : Vec F S256x3072 .bf16) (x1 : Vec F S256x3072 .bf16) (x2 : Vec F S256x256 .bf16) (x3 : Vec F S1536x512 .i8) (x4 : Vec F S24x512 .f32) (x5 : Vec F S24x512 .f32)

/-- The run of the body at the first grid point. -/
abbrev runA (hc0 : cond0_0 i) := kernelRun0_A (F := F) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5

/-- The run of the body at a later grid point. -/
abbrev runB (hc0 : ¬cond0_0 i) (xo8 : Vec F S256x3072 .i8) (xo9 : Vec F S256x1 .f32) (xs0 : Vec F S512x3072 .bf16) :=
  kernelRun0_B (F := F) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xo8 xo9 xs0

/-! Every output block, and the rows' scratch buffer, are covered by what is stored into them. -/

theorem A_cov6 (hc0 : cond0_0 i) : ∀ y, ∃ p ∈ (runA c i arg1 harg1 arg2 harg2 arg3 harg3 arg4 harg4 arg5 harg5 arg6 harg6 arg7 harg7 arg8 harg8 arg9 harg9 arg10 harg10 arg11 harg11 arg12 harg12 arg13 harg13 x0 x1 x2 x3 x4 x5 hc0).1, y ∈ p.1.set := View.cover_of_tiled_head _ _ _ (by rfl)
theorem A_cov7 (hc0 : cond0_0 i) : ∀ y, ∃ p ∈ (runA c i arg1 harg1 arg2 harg2 arg3 harg3 arg4 harg4 arg5 harg5 arg6 harg6 arg7 harg7 arg8 harg8 arg9 harg9 arg10 harg10 arg11 harg11 arg12 harg12 arg13 harg13 x0 x1 x2 x3 x4 x5 hc0).2.1, y ∈ p.1.set := View.cover_of_tiled_head _ _ _ (by rfl)
theorem A_cov8 (hc0 : cond0_0 i) : ∀ y, ∃ p ∈ (runA c i arg1 harg1 arg2 harg2 arg3 harg3 arg4 harg4 arg5 harg5 arg6 harg6 arg7 harg7 arg8 harg8 arg9 harg9 arg10 harg10 arg11 harg11 arg12 harg12 arg13 harg13 x0 x1 x2 x3 x4 x5 hc0).2.2.1, y ∈ p.1.set := View.cover_of_tiled_head _ _ _ (by rfl)
theorem A_cov9 (hc0 : cond0_0 i) : ∀ y, ∃ p ∈ (runA c i arg1 harg1 arg2 harg2 arg3 harg3 arg4 harg4 arg5 harg5 arg6 harg6 arg7 harg7 arg8 harg8 arg9 harg9 arg10 harg10 arg11 harg11 arg12 harg12 arg13 harg13 x0 x1 x2 x3 x4 x5 hc0).2.2.2.1, y ∈ p.1.set := View.cover_of_tiled_head _ _ _ (by rfl)
theorem A_covS (hc0 : cond0_0 i) : ∀ y, ∃ p ∈ (runA c i arg1 harg1 arg2 harg2 arg3 harg3 arg4 harg4 arg5 harg5 arg6 harg6 arg7 harg7 arg8 harg8 arg9 harg9 arg10 harg10 arg11 harg11 arg12 harg12 arg13 harg13 x0 x1 x2 x3 x4 x5 hc0).2.2.2.2.1, y ∈ p.1.set := View.cover_of_tiled_head _ _ _ (by rfl)
theorem B_cov6 (hc0 : ¬cond0_0 i) (xo8) (xo9) (xs0) : ∀ y, ∃ p ∈ (runB c i arg1 harg1 arg2 harg2 arg3 harg3 arg4 harg4 arg5 harg5 arg6 harg6 arg7 harg7 arg8 harg8 arg9 harg9 arg10 harg10 arg11 harg11 arg12 harg12 arg13 harg13 x0 x1 x2 x3 x4 x5 hc0 xo8 xo9 xs0).1, y ∈ p.1.set := View.cover_of_tiled_head _ _ _ (by rfl)
theorem B_cov7 (hc0 : ¬cond0_0 i) (xo8) (xo9) (xs0) : ∀ y, ∃ p ∈ (runB c i arg1 harg1 arg2 harg2 arg3 harg3 arg4 harg4 arg5 harg5 arg6 harg6 arg7 harg7 arg8 harg8 arg9 harg9 arg10 harg10 arg11 harg11 arg12 harg12 arg13 harg13 x0 x1 x2 x3 x4 x5 hc0 xo8 xo9 xs0).2.1, y ∈ p.1.set := View.cover_of_tiled_head _ _ _ (by rfl)

end

end Cert.KernelIdeal.Cover

end
-- ==== Proof.Region.lean ====
/- The kernel's pipeline, run to its end: what every buffer holds between grid points, the body's obligation at every point, and the launch. -/
module

public import proofs.«01_k».proof.Proof.Cover
public import Idealize.ShloMosaic.Lib.Claim

@[expose] public section

set_option maxRecDepth 16384

noncomputable section

namespace Cert.KernelIdeal.Region

open Cert.KernelIdeal Cert.KernelIdeal.Gen Cert.KernelIdeal.Body Cert.KernelIdeal.Cover
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold -/

/-- The first grid point. -/
abbrev pt0 : Fin cfg0.N := ⟨0, by have : cfg0.N = 16 := N_0; omega⟩

/-- The body's branch is taken at the first point. -/
theorem cond_pt0 : cond0_0 (grid0.coords pt0) := (hcond0_0 pt0).mpr rfl

/-- The body's stores at the first grid point. -/
abbrev runAt0 (c : Dev nD) := runA c (grid0.coords pt0) (ms0_0 pt0) (hs0_0 pt0) (ms0_1 pt0) (hs0_1 pt0) (ms0_2 pt0) (hs0_2 pt0) (ms0_3 pt0) (hs0_3 pt0) (ms0_4 pt0) (hs0_4 pt0) (ms0_5 pt0) (hs0_5 pt0) (ms0_6 pt0) (hs0_6 pt0) (ms0_7 pt0) (hs0_7 pt0) (ms0_8 pt0) (hs0_8 pt0) (ms0_9 pt0) (hs0_9 pt0) scM0_0 (Memref.isWhole_whole _) scM0_1 (Memref.isWhole_whole _) scM0_2 (Memref.isWhole_whole _) (iblk m c 0 pt0) (iblk m c 1 pt0) (iblk m c 2 pt0) (iblk m c 3 pt0) (iblk m c 4 pt0) (iblk m c 5 pt0) cond_pt0

/-- The rows that every grid point multiplies, computed at the first. -/
def rowsAt (c : Dev nD) : Vec F S512x3072 .bf16 := VS0_0.read (Elt F) (VS0_0.writes (Elt F) VS0_0.junk (runAt0 m c).2.2.2.2.1)

/-- The rows' scales, computed at the first grid point. -/
def scaleAt (c : Dev nD) : Vec F S256x1 .f32 := VO0_9.read (Elt F) (VO0_9.writes (Elt F) VO0_9.junk (runAt0 m c).2.2.2.1)

/-- The codes, computed at the first grid point. -/
def codesAt (c : Dev nD) : Vec F S256x3072 .i8 := VO0_8.read (Elt F) (VO0_8.writes (Elt F) VO0_8.junk (runAt0 m c).2.2.1)

/-- The body's stores at a later grid point `t`: it finds the codes, the scales and the rows as the first left them. -/
abbrev runAt (c : Dev nD) (t : Fin cfg0.N) (h : ¬cond0_0 (grid0.coords t)) := runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (iblk m c 0 t) (iblk m c 1 t) (iblk m c 2 t) (iblk m c 3 t) (iblk m c 4 t) (iblk m c 5 t) h (codesAt m c) (scaleAt m c) (rowsAt m c)

/-- The block of the first result that grid point `t` writes. -/
def ydAt (c : Dev nD) (t : Fin cfg0.N) : Vec F S256x512 .bf16 :=
  if h : cond0_0 (grid0.coords t) then VO0_6.read (Elt F) (VO0_6.writes (Elt F) VO0_6.junk (runAt0 m c).1)
  else VO0_6.read (Elt F) (VO0_6.writes (Elt F) VO0_6.junk (runAt m c t h).1)

/-- The block of the second result that grid point `t` writes. -/
def yvAt (c : Dev nD) (t : Fin cfg0.N) : Vec F S256x512 .bf16 :=
  if h : cond0_0 (grid0.coords t) then VO0_7.read (Elt F) (VO0_7.writes (Elt F) VO0_7.junk (runAt0 m c).2.1)
  else VO0_7.read (Elt F) (VO0_7.writes (Elt F) VO0_7.junk (runAt m c t h).2.1)

/-- The invariant between grid points: before the first the scratch buffers at anything, afterwards the rows' buffer at the rows and the two others at
    anything; and the generator's register at some state. -/
def PhiS (c : Dev nD) : ℕ → sProp 𝕄
  | 0 => Pipeline.ΦA spec0 c
  | _ + 1 => iprop(iprop(owns (c : Thread nD τ) scM0_0 fullShare (rowsAt m c) ∗ (∃ d, owns (c : Thread nD τ) scM0_1 fullShare d) ∗ (∃ d, owns (c : Thread nD τ) scM0_2 fullShare d)) ∗ (∃ r, prngReg c r))

theorem PhiS_zero (c : Dev nD) (n : ℕ) (hz : n = 0) : PhiS m c n = Pipeline.ΦA spec0 c := by
  subst hz; rfl

theorem PhiS_succ (c : Dev nD) (n : ℕ) :
    PhiS m c (n + 1) = iprop(iprop(owns (c : Thread nD τ) scM0_0 fullShare (rowsAt m c) ∗ (∃ d, owns (c : Thread nD τ) scM0_1 fullShare d) ∗ (∃ d, owns (c : Thread nD τ) scM0_2 fullShare d)) ∗ (∃ r, prngReg c r)) := rfl

theorem PhiS_pos (c : Dev nD) (n : ℕ) (hz : n ≠ 0) :
    PhiS m c n = iprop(iprop(owns (c : Thread nD τ) scM0_0 fullShare (rowsAt m c) ∗ (∃ d, owns (c : Thread nD τ) scM0_1 fullShare d) ∗ (∃ d, owns (c : Thread nD τ) scM0_2 fullShare d)) ∗ (∃ r, prngReg c r)) := by
  cases n with
  | zero => exact absurd rfl hz
  | succ n => rfl

/-- The proof data of the pipeline on core `c`: the arrays as the region finds them; after the body at point `t` each input's buffer at its block, the
    results' at their products, the codes and the scale at what the first point computed; the invariant `PhiS`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => ydAt m c t
    | ⟨7, _⟩ => yvAt m c t
    | ⟨8, _⟩ => codesAt m c
    | ⟨9, _⟩ => scaleAt m c
  Φ t := PhiS m c t.val
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val := by
  dsimp only [dats]; rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = ydAt m c t := by dsimp only [dats]
theorem after0_7 (c : Dev nD) (t : Fin cfg0.N) : (dats m 0 c).after 7 t = yvAt m c t := by dsimp only [dats]
theorem after0_8 (c : Dev nD) (t : Fin cfg0.N) : (dats m 0 c).after 8 t = codesAt m c := by dsimp only [dats]
theorem after0_9 (c : Dev nD) (t : Fin cfg0.N) : (dats m 0 c).after 9 t = scaleAt m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- Whether the codes' or the scale's staging buffer still holds nothing, before each point: only before the first, and after the last's write-back. -/
def freshTab : ℕ → Bool
  | 0 => true
  | n + 1 => (0x8000 : ℕ).testBit n

theorem freshTab_step8 : ∀ t : Fin cfg0.N, freshTab (t.val + 1) = ((cfg0.win 8).flush t || (cfg0.idle 8 (cfg0.grid.coords t) && freshTab t.val)) := by decide +kernel

theorem fresh8 (t : Fin cfg0.N) : cfg0.fresh 8 t.val = freshTab t.val :=
  Pipeline.Cfg.fresh_tab cfg0 8 freshTab rfl freshTab_step8 t.val (Nat.le_of_lt t.isLt)

theorem freshTab_step9 : ∀ t : Fin cfg0.N, freshTab (t.val + 1) = ((cfg0.win 9).flush t || (cfg0.idle 9 (cfg0.grid.coords t) && freshTab t.val)) := by decide +kernel

theorem fresh9 (t : Fin cfg0.N) : cfg0.fresh 9 t.val = freshTab t.val :=
  Pipeline.Cfg.fresh_tab cfg0 9 freshTab rfl freshTab_step9 t.val (Nat.le_of_lt t.isLt)

theorem freshTab_pos : ∀ t : Fin cfg0.N, t.val ≠ 0 → freshTab t.val = false := by decide +kernel

/-- At every later point the codes's buffer holds what the first point left. -/
theorem before0_8_B (c : Dev nD) (t : Fin cfg0.N) (h0 : t.val ≠ 0) (d) : (dats m 0 c).before 8 t d = codesAt m c := by
  rw [Dat.before_out_traj _ 8 rfl (fun _ _ => rfl) (fun t _ _ _ => by rw [after0_8, after0_8]) t.val t rfl d,
    if_neg (by rw [fresh8, freshTab_pos t h0]; exact Bool.false_ne_true)]
  dsimp only [dats]

/-- At a later point the body leaves the codes's buffer alone. -/
theorem leaves0_8_B (c : Dev nD) (t : Fin cfg0.N) (h0 : t.val ≠ 0) (hc : ¬cond0_0 (grid0.coords t)) :
    owns (c : Thread nD τ) (ms0_8 t) fullShare (codesAt m c) ⊢ ((dats m 0 c).leavesExact 8 t : sProp 𝕄) := by
  cases hf : (cfg0.win 8).flush t with
  | false =>
    rw [(dats m 0 c).leavesExact_idle 8 t (idleAt0_8_B t hc) hf]
    iintro H
    iexists (fun _ => Classical.arbitrary _)
    rw [before0_8_B m c t h0]
    iexact H
  | true =>
    unfold Dat.leavesExact
    rw [idleAt0_8_B t hc, hf, after0_8]

/-- At every later point the scale's buffer holds what the first point left. -/
theorem before0_9_B (c : Dev nD) (t : Fin cfg0.N) (h0 : t.val ≠ 0) (d) : (dats m 0 c).before 9 t d = scaleAt m c := by
  rw [Dat.before_out_traj _ 9 rfl (fun _ _ => rfl) (fun t _ _ _ => by rw [after0_9, after0_9]) t.val t rfl d,
    if_neg (by rw [fresh9, freshTab_pos t h0]; exact Bool.false_ne_true)]
  dsimp only [dats]

/-- At a later point the body leaves the scale's buffer alone. -/
theorem leaves0_9_B (c : Dev nD) (t : Fin cfg0.N) (h0 : t.val ≠ 0) (hc : ¬cond0_0 (grid0.coords t)) :
    owns (c : Thread nD τ) (ms0_9 t) fullShare (scaleAt m c) ⊢ ((dats m 0 c).leavesExact 9 t : sProp 𝕄) := by
  cases hf : (cfg0.win 9).flush t with
  | false =>
    rw [(dats m 0 c).leavesExact_idle 9 t (idleAt0_9_B t hc) hf]
    iintro H
    iexists (fun _ => Classical.arbitrary _)
    rw [before0_9_B m c t h0]
    iexact H
  | true =>
    unfold Dat.leavesExact
    rw [idleAt0_9_B t hc, hf, after0_9]

/-! ## The body obligation -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

/-- The body obligation at the first point. -/
theorem sound_A (c : Dev nD) (t : Fin cfg0.N) (hz : t.val = 0) :
    bodyPre m c t ⊢ wp frame (wpE (defs₀ (F := F)) Variants.none c none) Set.univ (bodyAt0 t) (fun _ => bodyPost m c t) := by
  obtain rfl : t = pt0 := Fin.ext hz
  have hc : cond0_0 (grid0.coords pt0) := cond_pt0
  unfold bodyPre bodyPost bodyAt0
  simp only [before0_0, before0_1, before0_2, before0_3, before0_4, before0_5]
  rw [show (dats m 0 c).owesAt () pt0.succ = (dats m 0 c).owesAt () pt0.castSucc from rfl]
  rw [show (dats m 0 c).Φ pt0.succ = PhiS m c (pt0.val + 1) from rfl, PhiS_succ]
  rw [show (dats m 0 c).leavesExact 0 pt0 = owns (c : Thread nD τ) (ms0_0 pt0) fullShare ((dats m 0 c).after 0 pt0) from by
    unfold Dat.leavesExact; rw [liveAt0_0 pt0], after0_0]
  rw [show (dats m 0 c).leavesExact 1 pt0 = owns (c : Thread nD τ) (ms0_1 pt0) fullShare ((dats m 0 c).after 1 pt0) from by
    unfold Dat.leavesExact; rw [liveAt0_1 pt0], after0_1]
  rw [show (dats m 0 c).leavesExact 2 pt0 = owns (c : Thread nD τ) (ms0_2 pt0) fullShare ((dats m 0 c).after 2 pt0) from by
    unfold Dat.leavesExact; rw [liveAt0_2 pt0], after0_2]
  rw [show (dats m 0 c).leavesExact 3 pt0 = owns (c : Thread nD τ) (ms0_3 pt0) fullShare ((dats m 0 c).after 3 pt0) from by
    unfold Dat.leavesExact; rw [liveAt0_3 pt0], after0_3]
  rw [show (dats m 0 c).leavesExact 4 pt0 = owns (c : Thread nD τ) (ms0_4 pt0) fullShare ((dats m 0 c).after 4 pt0) from by
    unfold Dat.leavesExact; rw [liveAt0_4 pt0], after0_4]
  rw [show (dats m 0 c).leavesExact 5 pt0 = owns (c : Thread nD τ) (ms0_5 pt0) fullShare ((dats m 0 c).after 5 pt0) from by
    unfold Dat.leavesExact; rw [liveAt0_5 pt0], after0_5]
  rw [show (dats m 0 c).leavesExact 6 pt0 = owns (c : Thread nD τ) (ms0_6 pt0) fullShare ((dats m 0 c).after 6 pt0) from by
    unfold Dat.leavesExact; rw [liveAt0_6 pt0], after0_6]
  rw [show (dats m 0 c).leavesExact 7 pt0 = owns (c : Thread nD τ) (ms0_7 pt0) fullShare ((dats m 0 c).after 7 pt0) from by
    unfold Dat.leavesExact; rw [liveAt0_7 pt0], after0_7]
  rw [show (dats m 0 c).leavesExact 8 pt0 = owns (c : Thread nD τ) (ms0_8 pt0) fullShare ((dats m 0 c).after 8 pt0) from by
    unfold Dat.leavesExact; rw [liveAt0_8_A pt0 hc], after0_8]
  rw [show (dats m 0 c).leavesExact 9 pt0 = owns (c : Thread nD τ) (ms0_9 pt0) fullShare ((dats m 0 c).after 9 pt0) from by
    unfold Dat.leavesExact; rw [liveAt0_9_A pt0 hc], after0_9]
  rw [PhiS_castSucc m c pt0, PhiS_zero m c _ hz, PhiA0_eq]
  unfold ydAt yvAt
  rw [dif_pos hc, dif_pos hc]
  unfold rowsAt codesAt scaleAt
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runA c (grid0.coords pt0) _ _ _ _ _ _ _ _ _ _ _ _ _ _ _ _ _ _ _ _ _ _ _ _ _ _ (iblk m c 0 pt0) (iblk m c 1 pt0) (iblk m c 2 pt0) (iblk m c 3 pt0) (iblk m c 4 pt0) (iblk m c 5 pt0) hc).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [HS0]; · iexact HS0
  isplitl [HS1]; · iexact HS1
  isplitl [HS2]; · iexact HS2
  iintro ⟨H0, H1, H2, H3, H4, H5, ⟨%e6, H6⟩, ⟨%e7, H7⟩, ⟨%e8, H8⟩, ⟨%e9, H9⟩, ⟨%es0, HS0⟩, ⟨%fT1, HS1⟩, ⟨%fT2, HS2⟩⟩
  isplitl [HS0 HS1 HS2 Hg]
  · isplitl [HS0 HS1 HS2]
    · isplitl [HS0]
      · unfold owns; iexists _; isplitr
        swap; · iexact HS0
        ipureintro; exact View.read_writes_of_cover _ _ _ _ _ (A_covS c _ _ _ _ _ _ _ _ _ _ _ _ _ _ _ _ _ _ _ _ _ _ _ _ _ _ _ _ _ _ _ _ _ _)
      isplitl [HS1]
      · iexists _; unfold owns; iexists _; isplitr
        swap; · iexact HS1
        ipureintro; rfl
      iexists _; unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (A_cov6 c _ _ _ _ _ _ _ _ _ _ _ _ _ _ _ _ _ _ _ _ _ _ _ _ _ _ _ _ _ _ _ _ _ _)
  isplitl [H7]
  · unfold owns; iexists _; isplitr
    swap; · iexact H7
    ipureintro; exact View.read_writes_of_cover _ _ _ _ _ (A_cov7 c _ _ _ _ _ _ _ _ _ _ _ _ _ _ _ _ _ _ _ _ _ _ _ _ _ _ _ _ _ _ _ _ _ _)
  isplitl [H8]
  · unfold owns; iexists _; isplitr
    swap; · iexact H8
    ipureintro; exact View.read_writes_of_cover _ _ _ _ _ (A_cov8 c _ _ _ _ _ _ _ _ _ _ _ _ _ _ _ _ _ _ _ _ _ _ _ _ _ _ _ _ _ _ _ _ _ _)
  unfold owns; iexists _; isplitr
  swap; · iexact H9
  ipureintro; exact View.read_writes_of_cover _ _ _ _ _ (A_cov9 c _ _ _ _ _ _ _ _ _ _ _ _ _ _ _ _ _ _ _ _ _ _ _ _ _ _ _ _ _ _ _ _ _ _)

/-- The body obligation at a later point. -/
theorem sound_B (c : Dev nD) (t : Fin cfg0.N) (hz : t.val ≠ 0) :
    bodyPre m c t ⊢ wp frame (wpE (defs₀ (F := F)) Variants.none c none) Set.univ (bodyAt0 t) (fun _ => bodyPost m c t) := by
  have hN : t.val < 16 := lt_of_lt_of_eq t.isLt (show cfg0.N = 16 from N_0)
  have hc : ¬cond0_0 (grid0.coords t) := fun h => by have := (hcond0_0 t).mp h; omega
  unfold bodyPre bodyPost bodyAt0
  simp only [before0_0, before0_1, before0_2, before0_3, before0_4, before0_5, before0_8_B m c t hz, before0_9_B m c t hz]
  rw [show (dats m 0 c).owesAt () t.succ = (dats m 0 c).owesAt () t.castSucc from rfl]
  rw [show (dats m 0 c).Φ t.succ = PhiS m c (t.val + 1) from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [PhiS_castSucc m c t, PhiS_pos m c _ hz]
  unfold ydAt yvAt
  rw [dif_neg hc, dif_neg hc]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runB c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) hc (codesAt m c) (scaleAt m c) (rowsAt m c)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexact H8
  isplitl [H9]; · iexact H9
  isplitl [HS0]; · iexact HS0
  isplitl [HS1]; · iexact HS1
  isplitl [HS2]; · iexact HS2
  iintro ⟨H0, H1, H2, H3, H4, H5, ⟨%e6, H6⟩, ⟨%e7, H7⟩, H8, H9, HS0, HS1, ⟨%fT2, HS2⟩⟩
  isplitl [HS0 HS1 HS2 Hg]
  · isplitl [HS0 HS1 HS2]
    · isplitl [HS0]
      · iexact HS0
      isplitl [HS1]
      · iexact HS1
      iexists _; unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (B_cov6 c _ _ _ _ _ _ _ _ _ _ _ _ _ _ _ _ _ _ _ _ _ _ _ _ _ _ _ _ _ _ _ _ _ _ _ _ _)
  isplitl [H7]
  · unfold owns; iexists _; isplitr
    swap; · iexact H7
    ipureintro; exact View.read_writes_of_cover _ _ _ _ _ (B_cov7 c _ _ _ _ _ _ _ _ _ _ _ _ _ _ _ _ _ _ _ _ _ _ _ _ _ _ _ _ _ _ _ _ _ _ _ _ _)
  isplitl [H8]
  · iapply (leaves0_8_B m c t hz hc); iexact H8
  iapply (leaves0_9_B m c t hz hc); iexact H9

/-- The body obligation at every point. -/
theorem sound_body (c : Dev nD) (t : Fin cfg0.N) :
    bodyPre m c t ⊢ wp frame (wpE (defs₀ (F := F)) Variants.none c none) Set.univ (bodyAt0 t) (fun _ => bodyPost m c t) := by
  by_cases hz : t.val = 0
  · exact sound_A m c t hz
  · exact sound_B m c t hz

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val from rfl, PhiS_pos m c _ ht, PhiA0_eq]
  iintro ⟨⟨HS0, HS1, HS2⟩, Hg⟩
  isplitl [HS0 HS1 HS2]
  · isplitl [HS0]
    · iexists _; iexact HS0
    isplitl [HS1]
    · iexact HS1
    iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: every execution ends, the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Region

end
-- ==== Proof.Same.lean ====
/- The kernel as first printed and the kernel whose floats are extended reals are one text, so what is proved of the
   second for every family of float types holds of the first: the frame is carried over, not proved again. -/
module

public import proofs.«01_k».proof.Proof.Gen.Kernel
public import proofs.«01_k».proof.Proof.Gen.Kernel.Frame
public import proofs.«01_k».proof.Proof.Region

@[expose] public section

noncomputable section

namespace Cert.Kernel.Same

open Idealize.ShloMosaic Idealize.SL.Sem

section
variable {F : FTy → Type} [FloatOps F] [i1 : Cert.Kernel.Facts] [i2 : Cert.KernelIdeal.Facts]

set_option maxHeartbeats 2000000 in
/-- The two programs' kernel bodies are one body. -/
theorem defs₀_eq : Cert.Kernel.defs₀ (F := F) = Cert.KernelIdeal.defs₀ (F := F) := by
  unfold Cert.Kernel.defs₀ Cert.KernelIdeal.defs₀
  refine congrArg Defs.onTc ?_
  funext l x
  obtain ⟨l, hl⟩ := l
  cases l with
  | zero => obtain ⟨t, s⟩ := x; rfl
  | succ n => omega

set_option maxHeartbeats 2000000 in
/-- The two host functions are one. -/
theorem main_eq : Cert.Kernel.main (F := F) = Cert.KernelIdeal.main (F := F) := by rfl

end

variable {F : FTy → Type} [FloatOps F]
variable (m : (ℓ : Loc Cert.Kernel.nD Cert.Kernel.τ Cert.Kernel.sig) → Buf (Elt F) ℓ) (ρ : Dev Cert.Kernel.nD → PrngReg)

open Cert.Kernel in
/-- The frame of the kernel as first printed. -/
theorem frame : θ_run Cert.Kernel.defs (onTc (τ := Cert.Kernel.τ) (Cert.Kernel.main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  unfold Cert.Kernel.defs
  rw [defs₀_eq, main_eq]
  exact Cert.KernelIdeal.Region.frame (F := F) m ρ

end Cert.Kernel.Same

end
-- ==== Proof.Spec.lean ====
/- The arithmetic of one element, shared by both programs: absolute value, quantiser scale, quantised code, weight. -/
module

public import Idealize.ShloMosaic.Lib.Pointwise

@[expose] public section

noncomputable section

namespace Cert.Spec

open Idealize.ShloMosaic

/-- The absolute value of an extended real, as the programs take it. -/
def absE (a : EReal) : EReal := max a (-a)

/-- The quantiser's scale for a row whose greatest absolute value is `a`: `a / 7`, or 1 where `a` is 0. -/
def scl (a : EReal) : EReal := if a = 0 then 1 else Ideal.div a (Ideal.ofBits .f32 0x40E00000#32)

/-- The code of `x` at scale `s`: `x / s` rounded to nearest even and clipped to [−7, 7]. -/
def code (x s : EReal) : EReal :=
  min (Ideal.ofBits .f32 0x40E00000#32) (max (Ideal.ofBits .f32 0xC0E00000#32) (Ideal.liftRound Ideal.roundHalfEven (Ideal.div x s)))

/-- Nibble `t` of a byte, as a number: the low one at `t = 0`, the high one otherwise. -/
def nib (b : BitVec 8) (t : ℕ) : EReal :=
  FloatOps.sitofp (F := Ideal) .bf16
    (if t < 1 then IntOp.andi (BitVec.setWidth 32 b) 15#32 else IntOp.shrsi ArithUnit.vector (BitVec.setWidth 32 b) 4#32)

/-- The weight that nibble `t` of a byte stands for, at its group's scale and zero point. -/
def wt (b : BitVec 8) (t : ℕ) (s z : EReal) : EReal := (nib b t - z) * s

end Cert.Spec

end
-- ==== Proof.Block.lean ====
/- What one block of the kernel's body computes, read element by element. -/
module

public import proofs.«01_k».proof.Proof.Spec
public import proofs.«01_k».proof.Proof.Gen.KernelIdeal.Skeleton

@[expose] public section

set_option maxRecDepth 16384

noncomputable section

namespace Cert.KernelIdeal.Block

open Cert.KernelIdeal Cert.KernelIdeal.Gen Cert.Spec Idealize.ShloMosaic

/-- A rotated block: the product with the block-diagonal sign matrix, times the norm. -/
theorem rot_apply (b h : Vec Ideal S256x256 .bf16) (r c : Fin 256) :
    k0_pay6 (F := Ideal) b h (ix2 r c) = (∑ k : Fin 256, b (ix2 r k) * h (ix2 k c)) * Ideal.ofBits .f32 0x3DB504F3#32 := by
  pointwise [k0_pay6]

/-- A rotated block of the second operand, rounded to the rows' format. -/
theorem rotV_apply (b h : Vec Ideal S256x256 .bf16) (r c : Fin 256) :
    k0_pay5 (F := Ideal) b h (ix2 r c) = (∑ k : Fin 256, b (ix2 r k) * h (ix2 k c)) * Ideal.ofBits .f32 0x3DB504F3#32 := by
  pointwise [k0_pay5]

/-- One step of the row maximum: the greater of what came before and the block's greatest absolute value. -/
def maxStep (p : FVec Ideal S256x1 .f32) (x : FVec Ideal S256x256 .f32) : FVec Ideal S256x1 .f32 :=
  maximumf p (shapeCast S256x1 (multiReduction .maximumf [1] S256 (absf x) 0xFF800000#32 reduces_S256x256_S256 (.inl rfl) rfl) shapeCasts_S256_S256x1)

/-- The scale of a column of row maxima. -/
def scaleOf (a : FVec Ideal S256x1 .f32) : FVec Ideal S256x1 .f32 :=
  select (cmpf .oeq a (broadcast S256x1 (Scalar.ofBits .f32 0x00000000#32))) (broadcast S256x1 (Scalar.ofBits .f32 0x3F800000#32))
    (divf a (broadcast S256x1 (Scalar.ofBits .f32 0x40E00000#32)))

theorem maxStep_apply (p : FVec Ideal S256x1 .f32) (x : FVec Ideal S256x256 .f32) (r : Fin 256) :
    maxStep p x (ix2 r 0) = max (p (ix2 r 0)) (⨆ k : Fin 256, absE (x (ix2 r k))) := by
  pointwise [maxStep]
  have hb : Ideal.ofBits FTy.f32 0xFF800000#32 = (⊥ : EReal) := by
    simp [Ideal.ofBits, Ideal.ieee]
  rw [hb]
  congr 1
  have : ∀ f : Fin 256 → EReal, Finset.fold max ⊥ f Finset.univ = ⨆ k, f k := by
    intro f; rw [← Finset.sup_univ_eq_iSup]; rfl
  exact this _

theorem scaleOf_apply (a : FVec Ideal S256x1 .f32) (r : Fin 256) : scaleOf a (ix2 r 0) = scl (a (ix2 r 0)) := by
  pointwise [scaleOf, scl]

/-- A block of codes, before it is stored. -/
theorem quant_apply (s : FVec Ideal S256x1 .f32) (x : Vec Ideal S256x256 .f32) (r c : Fin 256) :
    k0_pay60 (F := Ideal) s x (ix2 r c) = code (x (ix2 r c)) (s (ix2 r 0)) := by
  pointwise [k0_pay60, code]

/-- A group of decoded weights. -/
theorem dec_apply (q : Vec Ideal S64x512 .i8) (z s : Vec Ideal S1x512 .f32) (r : Fin 128) (c : Fin 512) :
    k0_pay99 (F := Ideal) q z s (ix2 r c)
      = wt (q (ix2 ⟨r.val / 2, by omega⟩ c)) (r.val % 2) (s (ix2 0 c)) (z (ix2 0 c)) := by
  pointwise [k0_pay99, wt, nib]
  rfl

/-- The product for the first half of the rows, times their scale. -/
theorem yd_apply (rows : Vec Ideal S512x3072 .bf16) (w : Vec Ideal S3072x512 .bf16) (s : Vec Ideal S256x1 .f32) (r : Fin 256) (c : Fin 512) :
    k0_pay3 (F := Ideal) rows w s (ix2 r c)
      = (∑ x : Fin 3072, rows (ix2 ⟨r.val, by omega⟩ x) * w (ix2 x c)) * s (ix2 r 0) := by
  pointwise [k0_pay3, k0_pay2]

/-- The product for the second half of the rows. -/
theorem yv_apply (rows : Vec Ideal S512x3072 .bf16) (w : Vec Ideal S3072x512 .bf16) (r : Fin 256) (c : Fin 512) :
    k0_pay4 (F := Ideal) rows w (ix2 r c) = ∑ x : Fin 3072, rows (ix2 ⟨256 + r.val, by omega⟩ x) * w (ix2 x c) := by
  pointwise [k0_pay4, k0_pay2]

end Cert.KernelIdeal.Block

end
-- ==== Proof.Contents.lean ====
/- What the kernel's buffers hold after the body has run: the lists of stores, read as whole arrays. -/
module

public import proofs.«01_k».proof.Proof.RunB
public import proofs.«01_k».proof.Proof.Block
public import Idealize.ShloMosaic.Lib.Pipeline.ValueKit

@[expose] public section

set_option maxRecDepth 16384

noncomputable section

namespace Cert.KernelIdeal.Contents

open Cert.KernelIdeal Cert.KernelIdeal.Gen Cert.KernelIdeal.Body Cert.KernelIdeal.Block Cert.Spec
open Idealize.ShloMosaic Idealize.ShloMosaic.TcCoe

/-- The rotated operand at one entry: its block's product with the sign matrix, times the norm. -/
def rotA (x : Vec Ideal S256x3072 .bf16) (h : Vec Ideal S256x256 .bf16) (r : Fin 256) (c : Fin 3072) : EReal :=
  (∑ k : Fin 256, x (ix2 r ⟨256 * (c.val / 256) + k.val, by omega⟩) * h (ix2 k ⟨c.val % 256, by omega⟩)) * Ideal.ofBits .f32 0x3DB504F3#32

/-- The rotated operand. -/
def rot (x : Vec Ideal S256x3072 .bf16) (h : Vec Ideal S256x256 .bf16) : Vec Ideal S256x3072 .f32 := fun y => rotA x h (y 0) (y 1)

/-- The greatest absolute value of a row of the rotated operand. -/
def amax (x : Vec Ideal S256x3072 .bf16) (h : Vec Ideal S256x256 .bf16) (r : Fin 256) : EReal := ⨆ c : Fin 3072, absE (rotA x h r c)

/-- The scale of each row. -/
def scales (x : Vec Ideal S256x3072 .bf16) (h : Vec Ideal S256x256 .bf16) : Vec Ideal S256x1 .f32 := fun y => scl (amax x h (y 0))

/-- The code of one entry, as a number. -/
def codeA (x : Vec Ideal S256x3072 .bf16) (h : Vec Ideal S256x256 .bf16) (r : Fin 256) (c : Fin 3072) : EReal :=
  code (rotA x h r c) (scl (amax x h r))

/-- The codes as 8-bit integers. -/
def codes (x : Vec Ideal S256x3072 .bf16) (h : Vec Ideal S256x256 .bf16) : Vec Ideal S256x3072 .i8 := fun y => Ideal.fptosi 8 (codeA x h (y 0) (y 1))

/-- One entry of the rows that are multiplied: the codes of the first operand, then the second operand rotated. -/
def rowsA (x v : Vec Ideal S256x3072 .bf16) (h : Vec Ideal S256x256 .bf16) (r : Fin 512) (c : Fin 3072) : EReal :=
  if hr : r.val < 256 then codeA x h ⟨r.val, hr⟩ c else rotA v h ⟨r.val - 256, by omega⟩ c

/-- The rows that are multiplied. -/
def rows (x v : Vec Ideal S256x3072 .bf16) (h : Vec Ideal S256x256 .bf16) : Vec Ideal S512x3072 .bf16 := fun y => rowsA x v h (y 0) (y 1)

/-- One decoded weight. -/
def weightA (q : Vec Ideal S1536x512 .i8) (s z : Vec Ideal S24x512 .f32) (r : Fin 3072) (c : Fin 512) : EReal :=
  wt (q (ix2 ⟨r.val / 2, by omega⟩ c)) (r.val % 2) (s (ix2 ⟨r.val / 128, by omega⟩ c)) (z (ix2 ⟨r.val / 128, by omega⟩ c))

/-- The decoded weights. -/
def weights (q : Vec Ideal S1536x512 .i8) (s z : Vec Ideal S24x512 .f32) : Vec Ideal S3072x512 .bf16 := fun y => weightA q s z (y 0) (y 1)

section tiles

variable {a1 : Memref sig .tc .vmem S256x3072 .bf16} (h1 : a1.IsWhole) {a3 : Memref sig .tc .vmem S256x256 .bf16} (h3 : a3.IsWhole)
  (x : Vec Ideal S256x3072 .bf16) (h : Vec Ideal S256x256 .bf16)

/-- A rotated block as the body reads its operands. -/
abbrev blk (o : ℕ) (inb : ∀ a, (![0, o] : Fin 2 → ℕ) a + S256x256.size a ≤ S256x3072.size a)
    (inb0 : ∀ a, (![0, 0] : Fin 2 → ℕ) a + S256x256.size a ≤ S256x256.size a) : FVec Ideal S256x256 .f32 :=
  k0_pay6 (View.readAt (Elt Ideal) a1.view (Rect.unit (s := S256x3072) ![0, o] S256x256.size inb).toLoadRect (h1.unread x))
    (View.readAt (Elt Ideal) a3.view (Rect.unit (s := S256x256) ![0, 0] S256x256.size inb0).toLoadRect (h3.unread h))

theorem idx_ix2 {n m a b : ℕ} (o p : ℕ) (inb) (r : Fin a) (c : Fin b) (R : Fin n) (C : Fin m) (hR : R.val = o + r.val) (hC : C.val = p + c.val) :
    (Rect.unit (s := (⟨2, ![n, m]⟩ : Shape)) ![o, p] ![a, b] inb).idx (ix2 r c) = ix2 R C := by
  funext d
  apply Fin.ext
  fin_cases d
  · simp [Rect.idx_unit_val, ix2, hR]
  · simp [Rect.idx_unit_val, ix2, hC]

theorem blk_apply (o : ℕ) (ho : o % 256 = 0) (inb) (inb0) (r c : Fin 256) (C : Fin 3072) (hC : C.val = o + c.val) :
    blk h1 h3 x h o inb inb0 (ix2 r c) = rotA x h r C := by
  rw [blk, rot_apply, rotA]
  congr 1
  refine Finset.sum_congr rfl fun k _ => ?_
  rw [View.readAt_eq_ld, View.readAt_eq_ld, h1.read_unread, h3.read_unread]
  unfold View.ld
  have hl : o + 256 ≤ 3072 := by have := inb 1; simpa using this
  congr 1
  · congr 1
    exact idx_ix2 _ _ inb _ _ _ _ (by simp) (by simp; omega)
  · congr 1
    exact idx_ix2 _ _ inb0 _ _ _ _ (by simp) (by simp; omega)

/-- A stored block agrees with an array when it does so entry by entry, at the block's place. -/
theorem tile_of {n m a b : ℕ} {e : EltTy} (o p : ℕ) (y : (⟨2, ![n, m]⟩ : Shape).Idx) (w : Vec Ideal (⟨2, ![a, b]⟩ : Shape) e)
    (f : Fin n → Fin m → Elt Ideal e)
    (hw : ∀ (r : Fin a) (c : Fin b) (R : Fin n) (C : Fin m), R.val = o + r.val → C.val = p + c.val → w (ix2 r c) = f R C) :
    View.TileAt (S := (⟨2, ![n, m]⟩ : Shape)) (Val := Elt Ideal) y ![o, p] ![a, b] w (f (y 0) (y 1)) := by
  intro u hu
  exact (congrArg w (eq_ix2 u)).trans (hw (u 0) (u 1) (y 0) (y 1) (by simpa using hu 0) (by simpa using hu 1))

/-- A stored block of the rotated first operand. -/
theorem tile_rot (o : ℕ) (ho : o % 256 = 0) (inb) (inb0) (hs) (y : S256x3072.Idx) :
    View.TileAt (S := S256x3072) (Val := Elt Ideal) (e := .f32) y ![0, o] S256x256.size (shapeCast S256x256 (blk h1 h3 x h o inb inb0) hs) (rot x h y) := by
  rw [shapeCast_self]
  exact tile_of (e := .f32) 0 o y (blk h1 h3 x h o inb inb0) (rotA x h) fun r c R C hR hC => by
    rw [blk_apply h1 h3 x h o ho inb inb0 r c C hC]
    congr 1
    exact Fin.ext (by omega)

/-- A stored block of the second operand, rotated. -/
theorem tile_rowsV (x' : Vec Ideal S256x3072 .bf16) (o : ℕ) (ho : o % 256 = 0) (inb) (inb0) (y : S512x3072.Idx) :
    View.TileAt (S := S512x3072) (Val := Elt Ideal) (e := .bf16) y ![256, o] S256x256.size
      (k0_pay5 (View.readAt (Elt Ideal) a1.view (Rect.unit (s := S256x3072) ![0, o] S256x256.size inb).toLoadRect (h1.unread x))
        (View.readAt (Elt Ideal) a3.view (Rect.unit (s := S256x256) ![0, 0] S256x256.size inb0).toLoadRect (h3.unread h))) (rows x' x h y) :=
  tile_of (e := .bf16) 256 o y _ (rowsA x' x h) fun r c R C hR hC => by
    have := blk_apply h1 h3 x h o ho inb inb0 r c C hC
    rw [blk, rot_apply] at this
    rw [rotV_apply, this, rowsA, dif_neg (by omega)]
    congr 1
    exact Fin.ext (by simp; omega)

variable (S : FVec Ideal S256x1 .f32) (hS : S = scales x h) {a12 : Memref sig .tc .vmem S256x3072 .f32}
  (L : List (View.Piece (Elt Ideal) S256x3072 .f32)) (hL : View.canon L = rot x h)

include hS hL in
/-- A block of codes, before it is stored: `S` is the scale, `L` the stores that left the rotated operand. -/
theorem quant_blk (o : ℕ) (inb) (r c : Fin 256) (C : Fin 3072) (hC : C.val = o + c.val) :
    k0_pay60 (F := Ideal) S (a12.view.readCov L (Rect.unit (s := S256x3072) ![0, o] S256x256.size inb).toLoadRect) (ix2 r c) = codeA x h r C := by
  rw [quant_apply, View.readCov_eq_canon', hL, hS, codeA]
  congr 1
  exact congrArg (rot x h) (idx_ix2 0 o inb r c r C (by simp) hC)

include hS hL in
/-- A stored block of codes. -/
theorem tile_code (o : ℕ) (inb) (y : S256x3072.Idx) :
    View.TileAt (S := S256x3072) (Val := Elt Ideal) (e := .i8) y ![0, o] S256x256.size
      (fptosi 8 (k0_pay60 (F := Ideal) S (a12.view.readCov L (Rect.unit (s := S256x3072) ![0, o] S256x256.size inb).toLoadRect))) (codes x h y) := by
  exact tile_of (e := .i8) 0 o y _ (fun r c => Ideal.fptosi 8 (codeA x h r c)) fun r c R C hR hC => by
    have := quant_blk x h S hS (a12 := a12) L hL o inb r c C hC
    show Ideal.fptosi 8 _ = Ideal.fptosi 8 _
    rw [this]
    congr 2
    exact Fin.ext (by omega)

include hS hL in
/-- A stored block of codes among the rows. -/
theorem tile_rowsD (v : Vec Ideal S256x3072 .bf16) (o : ℕ) (inb) (hc) (y : S512x3072.Idx) :
    View.TileAt (S := S512x3072) (Val := Elt Ideal) (e := .bf16) y ![0, o] S256x256.size
      (shapeCast S256x256 (truncf .bf16 (k0_pay60 (F := Ideal) S (a12.view.readCov L (Rect.unit (s := S256x3072) ![0, o] S256x256.size inb).toLoadRect))) hc) (rows x v h y) := by
  rw [shapeCast_self]
  exact tile_of (e := .bf16) 0 o y _ (rowsA x v h) fun r c R C hR hC => by
    have := quant_blk x h S hS (a12 := a12) L hL o inb r c C hC
    refine Eq.trans this ?_
    rw [rowsA, dif_pos (by omega)]
    congr 1
    exact Fin.ext (by simp; omega)

end tiles

section weightTiles

variable {a4 : Memref sig .tc .vmem S1536x512 .i8} (h4 : a4.IsWhole) {a5 a6 : Memref sig .tc .vmem S24x512 .f32} (h5 : a5.IsWhole) (h6 : a6.IsWhole)
  (q : Vec Ideal S1536x512 .i8) (s z : Vec Ideal S24x512 .f32)

/-- A stored group of decoded weights. -/
theorem tile_w (j o o' : ℕ) (ho : o = 128 * j) (ho' : o' = 64 * j) (inb) (inb5) (inb6) (y : S3072x512.Idx) :
    View.TileAt (S := S3072x512) (Val := Elt Ideal) (e := .bf16) y ![o, 0] S128x512.size
      (k0_pay99 (View.readAt (Elt Ideal) a4.view (Rect.unit (s := S1536x512) ![o', 0] S64x512.size inb).toLoadRect (h4.unread q))
        (View.readAt (Elt Ideal) a6.view (Rect.unit (s := S24x512) ![j, 0] S1x512.size inb6).toLoadRect (h6.unread z))
        (View.readAt (Elt Ideal) a5.view (Rect.unit (s := S24x512) ![j, 0] S1x512.size inb5).toLoadRect (h5.unread s))) (weights q s z y) :=
  tile_of (e := .bf16) o 0 y _ (weightA q s z) fun r c R C hR hC => by
    rw [dec_apply, weightA, View.readAt_eq_ld, View.readAt_eq_ld, View.readAt_eq_ld, h4.read_unread, h5.read_unread, h6.read_unread]
    unfold View.ld
    have hr := r.isLt
    have e1 := idx_ix2 o' 0 inb (⟨r.val / 2, by omega⟩ : Fin 64) c (⟨R.val / 2, by omega⟩ : Fin 1536) C (by simp; omega) hC
    have e2 := idx_ix2 j 0 inb5 (0 : Fin 1) c (⟨R.val / 128, by omega⟩ : Fin 24) C (by simp; omega) hC
    have e3 := idx_ix2 j 0 inb6 (0 : Fin 1) c (⟨R.val / 128, by omega⟩ : Fin 24) C (by simp; omega) hC
    have e4 : r.val % 2 = R.val % 2 := by omega
    rw [e4]
    exact congrArg₂ (fun a b => wt (q a) (R.val % 2) (s b.1) (z b.2)) e1 (congrArg₂ Prod.mk e2 e3)

end weightTiles

end Cert.KernelIdeal.Contents

end
-- ==== Proof.Arrays.lean ====
/- The arrays that the kernel's buffers hold after the body has run at the first grid point, and at the later ones. -/
module

public import proofs.«01_k».proof.Proof.Contents

@[expose] public section

set_option maxRecDepth 16384

noncomputable section

namespace Cert.KernelIdeal.Arrays

open Cert.KernelIdeal Cert.KernelIdeal.Gen Cert.KernelIdeal.Body Cert.KernelIdeal.Block Cert.KernelIdeal.Contents Cert.Spec
open Idealize.ShloMosaic Idealize.ShloMosaic.TcCoe

section scratch

variable (c : Dev nD) {a1 : Memref sig .tc .vmem S256x3072 .bf16} (h1 : a1.IsWhole) {a2 : Memref sig .tc .vmem S256x3072 .bf16} (h2 : a2.IsWhole)
  {a3 : Memref sig .tc .vmem S256x256 .bf16} (h3 : a3.IsWhole) (a12 : Memref sig .tc .vmem S256x3072 .f32)
  (x v : Vec Ideal S256x3072 .bf16) (h : Vec Ideal S256x256 .bf16)

/-- The scratch buffer of the first operand, rotated. -/
theorem canon_rot : View.canon (kernelRun0_A.sl.HS1_12 (F := Ideal) c a1 h1 a3 h3 x h) = rot x h := by
  funext y
  refine View.canon_eq_of_allAt _ y _ (View.cover_of_tiled_head _ _ _ (by rfl) y) ?_
  repeat' first
    | exact View.allAt_nil _ _
    | refine View.allAt_cons_unit _ _ _ _ _ (tile_rot h1 h3 x h _ (by decide) _ _ _ y) ?_

/-- The row maximum after one more block. -/
theorem amax_step (p : FVec Ideal S256x1 .f32) (o n : ℕ) (ho : o = 256 * n) (inb) (inb0) (r : Fin 256)
    (hp : p (ix2 r 0) = ⨆ C : Fin 3072, if C.val < o then absE (rotA x h r C) else 0) :
    maxStep p (blk h1 h3 x h o inb inb0) (ix2 r 0) = ⨆ C : Fin 3072, if C.val < o + 256 then absE (rotA x h r C) else 0 := by
  have hl : o + 256 ≤ 3072 := by have := inb 1; simpa using this
  have hb : ∀ (k : Fin 256), blk h1 h3 x h o inb inb0 (ix2 r k) = rotA x h r ⟨o + k.val, by omega⟩ := fun k =>
    blk_apply h1 h3 x h o (by omega) inb inb0 r k _ rfl
  have h0 : ∀ a : EReal, 0 ≤ absE a := fun a => by
    rcases le_total 0 a with ha | ha
    · exact le_max_of_le_left ha
    · exact le_max_of_le_right (by simpa using EReal.neg_le_neg_iff.mpr ha)
  rw [maxStep_apply, hp]
  apply le_antisymm
  · apply max_le
    · refine iSup_mono fun C => ?_
      split_ifs with p q
      · exact le_rfl
      · omega
      · exact h0 _
      · exact le_rfl
    · refine iSup_le fun k => ?_
      rw [hb]
      refine le_trans ?_ (le_iSup _ (⟨o + k.val, by omega⟩ : Fin 3072))
      rw [if_pos (by simp)]
  · refine iSup_le fun C => ?_
    by_cases q : C.val < o
    · refine le_trans ?_ (le_max_left _ _)
      refine le_trans ?_ (le_iSup _ C)
      rw [if_pos q, if_pos (by omega)]
    · by_cases q' : C.val < o + 256
      · refine le_trans ?_ (le_max_right _ _)
        refine le_trans ?_ (le_iSup _ (⟨C.val - o, by omega⟩ : Fin 256))
        rw [if_pos q', hb]
        refine le_of_eq ?_
        congr 2
        exact Fin.ext (by simp; omega)
      · rw [if_neg q']
        exact le_trans (h0 _) ((le_iSup (fun k => absE (blk h1 h3 x h o inb inb0 (ix2 r k))) 0).trans (le_max_right _ _))

/-- The scale of every row. -/
theorem scale_eq : kernelRun0_A.sl.r_16 (F := Ideal) c a1 h1 a3 h3 x h = scales x h := by
  have e : kernelRun0_A.sl.r_16 (F := Ideal) c a1 h1 a3 h3 x h
      = scaleOf (maxStep (maxStep (maxStep (maxStep (maxStep (maxStep (maxStep (maxStep (maxStep (maxStep (maxStep (maxStep
          (broadcast S256x1 (Scalar.ofBits .f32 0x00000000#32))
          (blk h1 h3 x h 0 inb_S256x3072_S256x256_0_0 inb_S256x256_S256x256_0_0))
          (blk h1 h3 x h 256 inb_S256x3072_S256x256_0_256 inb_S256x256_S256x256_0_0))
          (blk h1 h3 x h 512 inb_S256x3072_S256x256_0_512 inb_S256x256_S256x256_0_0))
          (blk h1 h3 x h 768 inb_S256x3072_S256x256_0_768 inb_S256x256_S256x256_0_0))
          (blk h1 h3 x h 1024 inb_S256x3072_S256x256_0_1024 inb_S256x256_S256x256_0_0))
          (blk h1 h3 x h 1280 inb_S256x3072_S256x256_0_1280 inb_S256x256_S256x256_0_0))
          (blk h1 h3 x h 1536 inb_S256x3072_S256x256_0_1536 inb_S256x256_S256x256_0_0))
          (blk h1 h3 x h 1792 inb_S256x3072_S256x256_0_1792 inb_S256x256_S256x256_0_0))
          (blk h1 h3 x h 2048 inb_S256x3072_S256x256_0_2048 inb_S256x256_S256x256_0_0))
          (blk h1 h3 x h 2304 inb_S256x3072_S256x256_0_2304 inb_S256x256_S256x256_0_0))
          (blk h1 h3 x h 2560 inb_S256x3072_S256x256_0_2560 inb_S256x256_S256x256_0_0))
          (blk h1 h3 x h 2816 inb_S256x3072_S256x256_0_2816 inb_S256x256_S256x256_0_0)) := rfl
  rw [e]
  funext y
  obtain ⟨r, z, rfl⟩ : ∃ (r : Fin 256) (z : Fin 1), y = ix2 r z := ⟨y 0, y 1, eq_ix2 y⟩
  obtain rfl : z = 0 := Subsingleton.elim _ _
  rw [scaleOf_apply]
  refine Eq.trans (congrArg scl ?_) (rfl : scl (amax x h r) = _)
  have hz : (broadcast S256x1 (Scalar.ofBits (F := Ideal) .f32 0x00000000#32) : FVec Ideal S256x1 .f32) (ix2 r 0)
      = ⨆ C : Fin 3072, if C.val < 0 then absE (rotA x h r C) else 0 := by
    simp
    pointwise
  have s0 := amax_step h1 h3 x h _ 0 0 rfl inb_S256x3072_S256x256_0_0 inb_S256x256_S256x256_0_0 r hz
  have s1 := amax_step h1 h3 x h _ 256 1 rfl inb_S256x3072_S256x256_0_256 inb_S256x256_S256x256_0_0 r s0
  have s2 := amax_step h1 h3 x h _ 512 2 rfl inb_S256x3072_S256x256_0_512 inb_S256x256_S256x256_0_0 r s1
  have s3 := amax_step h1 h3 x h _ 768 3 rfl inb_S256x3072_S256x256_0_768 inb_S256x256_S256x256_0_0 r s2
  have s4 := amax_step h1 h3 x h _ 1024 4 rfl inb_S256x3072_S256x256_0_1024 inb_S256x256_S256x256_0_0 r s3
  have s5 := amax_step h1 h3 x h _ 1280 5 rfl inb_S256x3072_S256x256_0_1280 inb_S256x256_S256x256_0_0 r s4
  have s6 := amax_step h1 h3 x h _ 1536 6 rfl inb_S256x3072_S256x256_0_1536 inb_S256x256_S256x256_0_0 r s5
  have s7 := amax_step h1 h3 x h _ 1792 7 rfl inb_S256x3072_S256x256_0_1792 inb_S256x256_S256x256_0_0 r s6
  have s8 := amax_step h1 h3 x h _ 2048 8 rfl inb_S256x3072_S256x256_0_2048 inb_S256x256_S256x256_0_0 r s7
  have s9 := amax_step h1 h3 x h _ 2304 9 rfl inb_S256x3072_S256x256_0_2304 inb_S256x256_S256x256_0_0 r s8
  have s10 := amax_step h1 h3 x h _ 2560 10 rfl inb_S256x3072_S256x256_0_2560 inb_S256x256_S256x256_0_0 r s9
  have s11 := amax_step h1 h3 x h _ 2816 11 rfl inb_S256x3072_S256x256_0_2816 inb_S256x256_S256x256_0_0 r s10
  refine s11.trans ?_
  exact iSup_congr fun C => if_pos (by omega)

/-- The scratch buffer of the rows that are multiplied. -/
theorem canon_rows : View.canon (kernelRun0_A.sl.HS0_24 (F := Ideal) c a1 h1 a2 h2 a3 h3 a12 x v h) = rows x v h := by
  funext y
  refine View.canon_eq_of_allAt _ y _ (View.cover_of_tiled_head _ _ _ (by rfl) y) ?_
  iterate 12 refine View.allAt_cons_unit _ _ _ _ _ (tile_rowsD x h _ (scale_eq c h1 h3 x h) (a12 := a12) _ (canon_rot c h1 h3 x h) v _ _ _ y) ?_
  iterate 12 refine View.allAt_cons_unit _ _ _ _ _ (tile_rowsV h2 h3 v h x _ (by decide) _ _ y) ?_
  exact View.allAt_nil _ _

end scratch

section weightScratch

variable (c : Dev nD) {a4 : Memref sig .tc .vmem S1536x512 .i8} (h4 : a4.IsWhole) {a5 a6 : Memref sig .tc .vmem S24x512 .f32} (h5 : a5.IsWhole) (h6 : a6.IsWhole)
  (q : Vec Ideal S1536x512 .i8) (s z : Vec Ideal S24x512 .f32)

/-- The scratch buffer of the decoded weights, at the first grid point. -/
theorem canon_weights_A : View.canon (kernelRun0_A.sl.HS2_24 (F := Ideal) c a4 h4 a5 h5 a6 h6 q s z) = weights q s z := by
  funext y
  refine View.canon_eq_of_allAt _ y _ (View.cover_of_tiled_head _ _ _ (by rfl) y) ?_
  repeat' first
    | exact View.allAt_nil _ _
    | refine View.allAt_cons_unit _ _ _ _ _ (tile_w h4 h5 h6 q s z _ _ _ (by rfl) (by rfl) _ _ _ y) ?_

/-- The scratch buffer of the decoded weights, at the later grid points. -/
theorem canon_weights_B : View.canon (kernelRun0_B.sl.HS2_24 (F := Ideal) c a4 h4 a5 h5 a6 h6 q s z) = weights q s z := by
  funext y
  refine View.canon_eq_of_allAt _ y _ (View.cover_of_tiled_head _ _ _ (by rfl) y) ?_
  repeat' first
    | exact View.allAt_nil _ _
    | refine View.allAt_cons_unit _ _ _ _ _ (tile_w h4 h5 h6 q s z _ _ _ (by rfl) (by rfl) _ _ _ y) ?_

end weightScratch

end Cert.KernelIdeal.Arrays

end
-- ==== Proof.Outs.lean ====
/- What one grid point writes to each of its output blocks. -/
module

public import proofs.«01_k».proof.Proof.Arrays
public import proofs.«01_k».proof.Proof.Cover

@[expose] public section

set_option maxRecDepth 16384

noncomputable section

namespace Cert.KernelIdeal.Outs

open Cert.KernelIdeal Cert.KernelIdeal.Gen Cert.KernelIdeal.Body Cert.KernelIdeal.Block Cert.KernelIdeal.Contents Cert.KernelIdeal.Arrays Cert.KernelIdeal.Cover Cert.Spec
open Idealize.ShloMosaic Idealize.ShloMosaic.TcCoe

/-- A block of the first result: the first 256 rows times the weights, scaled row by row. -/
def yd (R : Vec Ideal S512x3072 .bf16) (w : Vec Ideal S3072x512 .bf16) (s : Vec Ideal S256x1 .f32) : Vec Ideal S256x512 .bf16 := fun y =>
  (∑ k : Fin 3072, R (ix2 (⟨(y 0 : Fin 256).val, lt_trans (y 0 : Fin 256).isLt (by decide)⟩ : Fin 512) k) * w (ix2 k (y 1 : Fin 512))) * s (ix2 (y 0 : Fin 256) 0)

/-- A block of the second result: the last 256 rows times the weights. -/
def yv (R : Vec Ideal S512x3072 .bf16) (w : Vec Ideal S3072x512 .bf16) : Vec Ideal S256x512 .bf16 := fun y =>
  ∑ k : Fin 3072, R (ix2 (⟨256 + (y 0 : Fin 256).val, Nat.add_lt_add_left (y 0 : Fin 256).isLt 256⟩ : Fin 512) k) * w (ix2 k (y 1 : Fin 512))

theorem yd_eq (R : Vec Ideal S512x3072 .bf16) (w : Vec Ideal S3072x512 .bf16) (s : Vec Ideal S256x1 .f32) : k0_pay3 (F := Ideal) R w s = yd R w s := by
  funext y
  exact (congrArg _ (eq_ix2 y)).trans (yd_apply R w s (y 0) (y 1))

theorem yv_eq (R : Vec Ideal S512x3072 .bf16) (w : Vec Ideal S3072x512 .bf16) : k0_pay4 (F := Ideal) R w = yv R w := by
  funext y
  exact (congrArg _ (eq_ix2 y)).trans (yv_apply R w (y 0) (y 1))

/-- Reading the whole of an array gives the array. -/
theorem ld_whole {S : Shape} {e : EltTy} (X : Vec Ideal S e) (off : Fin S.rank → ℕ) (h : ∀ a, off a = 0) (inb) :
    View.ld (Val := Elt Ideal) X (Rect.unit off S.size inb) = X := by
  funext y
  unfold View.ld
  congr 1
  funext a
  exact Fin.ext (by simp [h a])

section
variable (c : Dev nD) (i : grid0.Coords) (arg1 : Memref sig .tc .vmem S256x3072 .bf16) (harg1 : arg1.IsWhole) (arg2 : Memref sig .tc .vmem S256x3072 .bf16) (harg2 : arg2.IsWhole) (arg3 : Memref sig .tc .vmem S256x256 .bf16) (harg3 : arg3.IsWhole) (arg4 : Memref sig .tc .vmem S1536x512 .i8) (harg4 : arg4.IsWhole) (arg5 : Memref sig .tc .vmem S24x512 .f32) (harg5 : arg5.IsWhole) (arg6 : Memref sig .tc .vmem S24x512 .f32) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x3072 .i8) (harg9 : arg9.IsWhole) (arg10 : Memref sig .tc .vmem S256x1 .f32) (harg10 : arg10.IsWhole) (arg11 : Memref sig .tc .vmem S512x3072 .bf16) (harg11 : arg11.IsWhole) (arg12 : Memref sig .tc .vmem S256x3072 .f32) (harg12 : arg12.IsWhole) (arg13 : Memref sig .tc .vmem S3072x512 .bf16) (harg13 : arg13.IsWhole)
  (x0 : Vec Ideal S256x3072 .bf16) (x1 : Vec Ideal S256x3072 .bf16) (x2 : Vec Ideal S256x256 .bf16) (x3 : Vec Ideal S1536x512 .i8) (x4 : Vec Ideal S24x512 .f32) (x5 : Vec Ideal S24x512 .f32)

/-- The rows as the body reads them back at the first grid point. -/
theorem v531_eq : kernelRun0_A.sl.v531 (F := Ideal) c arg1 harg1 arg2 harg2 arg3 harg3 arg11 arg12 x0 x1 x2 = rows x0 x1 x2 := by
  refine (View.readCov_eq_canon' _ _ _).trans ?_
  rw [canon_rows]
  exact ld_whole (e := .bf16) (rows x0 x1 x2) ![0, 0] (by decide) _

/-- The weights as the body reads them back at the first grid point. -/
theorem v532_eq_A : kernelRun0_A.sl.v532 (F := Ideal) c arg4 harg4 arg5 harg5 arg6 harg6 arg13 x3 x4 x5 = weights x3 x4 x5 := by
  refine (View.readCov_eq_canon' _ _ _).trans ?_
  rw [canon_weights_A]
  exact ld_whole (e := .bf16) (weights x3 x4 x5) ![0, 0] (by decide) _

/-- The weights as the body reads them back at a later grid point. -/
theorem v532_eq_B : kernelRun0_B.sl.v532 (F := Ideal) c arg4 harg4 arg5 harg5 arg6 harg6 arg13 x3 x4 x5 = weights x3 x4 x5 := by
  refine (View.readCov_eq_canon' _ _ _).trans ?_
  rw [canon_weights_B]
  exact ld_whole (e := .bf16) (weights x3 x4 x5) ![0, 0] (by decide) _

/-- The scale as the body reads it back at the first grid point. -/
theorem H9_eq : View.canon (kernelRun0_A.sl.H9_1 (F := Ideal) c arg1 harg1 arg3 harg3 x0 x2) = scales x0 x2 :=
  (View.canon_cons_unit_lit _ _ [] (by decide)).trans (scale_eq c harg1 harg3 x0 x2)

/-- First grid point: the block of the first result. -/
theorem A_yd (hc0 : cond0_0 i) : View.canon (runA (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 hc0).1 = yd (rows x0 x1 x2) (weights x3 x4 x5) (scales x0 x2) := by
  refine (View.canon_cons_unit_lit _ _ [] (by decide)).trans ?_
  rw [v531_eq, v532_eq_A]
  refine Eq.trans (congrArg _ ?_) (yd_eq _ _ _)
  refine (View.readCov_eq_canon' _ _ _).trans ?_
  rw [H9_eq]
  exact ld_whole (e := .f32) (scales x0 x2) ![0, 0] (by decide) _

/-- First grid point: the block of the second result. -/
theorem A_yv (hc0 : cond0_0 i) : View.canon (runA (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 hc0).2.1 = yv (rows x0 x1 x2) (weights x3 x4 x5) := by
  refine (View.canon_cons_unit_lit _ _ [] (by decide)).trans ?_
  rw [v531_eq, v532_eq_A, yv_eq]

/-- First grid point: the codes. -/
theorem A_codes (hc0 : cond0_0 i) : View.canon (runA (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 hc0).2.2.1 = codes x0 x2 := by
  funext y
  dsimp only [runA, kernelRun0_A]
  refine View.canon_eq_of_allAt _ y _ (View.cover_of_tiled_head _ _ _ (by rfl) y) ?_
  iterate 12 refine View.allAt_cons_unit _ _ _ _ _ (tile_code x0 x2 _ (scale_eq c harg1 harg3 x0 x2) (a12 := arg12) _ (canon_rot c harg1 harg3 x0 x2) _ _ y) ?_
  exact View.allAt_nil _ _

/-- First grid point: the scales. -/
theorem A_scale (hc0 : cond0_0 i) : View.canon (runA (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 hc0).2.2.2.1 = scales x0 x2 := H9_eq _ _ _ _ _ _ _

/-- First grid point: the rows left in the scratch buffer. -/
theorem A_rows (hc0 : cond0_0 i) : View.canon (runA (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 hc0).2.2.2.2.1 = rows x0 x1 x2 := canon_rows _ _ _ _ _ _ _ _

/-- Later grid points: the block of the first result. -/
theorem B_yd (hc0 : ¬cond0_0 i) (xo8 : Vec Ideal S256x3072 .i8) (xo9 : Vec Ideal S256x1 .f32) (xs0 : Vec Ideal S512x3072 .bf16) : View.canon (runB (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 hc0 xo8 xo9 xs0).1 = yd xs0 (weights x3 x4 x5) xo9 := by
  refine (View.canon_cons_unit_lit _ _ [] (by decide)).trans ?_
  rw [v532_eq_B, View.readAt_eq_ld, View.readAt_eq_ld, harg11.read_unread, harg10.read_unread]
  refine Eq.trans ?_ (yd_eq _ _ _)
  exact congrArg₂ (fun a b => k0_pay3 (F := Ideal) a (weights x3 x4 x5) b) (ld_whole (e := .bf16) xs0 ![0, 0] (by decide) _) (ld_whole (e := .f32) xo9 ![0, 0] (by decide) _)

/-- Later grid points: the block of the second result. -/
theorem B_yv (hc0 : ¬cond0_0 i) (xo8 : Vec Ideal S256x3072 .i8) (xo9 : Vec Ideal S256x1 .f32) (xs0 : Vec Ideal S512x3072 .bf16) : View.canon (runB (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 hc0 xo8 xo9 xs0).2.1 = yv xs0 (weights x3 x4 x5) := by
  refine (View.canon_cons_unit_lit _ _ [] (by decide)).trans ?_
  rw [v532_eq_B, View.readAt_eq_ld, harg11.read_unread]
  refine Eq.trans ?_ (yv_eq _ _)
  exact congrArg (fun a => k0_pay4 (F := Ideal) a (weights x3 x4 x5)) (ld_whole (e := .bf16) xs0 ![0, 0] (by decide) _)

end

end Cert.KernelIdeal.Outs

end
-- ==== Proof.Values.lean ====
/- The kernel's four result arrays, entry by entry, as functions of its arguments. -/
module

public import proofs.«01_k».proof.Proof.Outs
public import proofs.«01_k».proof.Proof.Region
public import Idealize.ShloMosaic.Lib.Pipeline.ValueKit
public import Idealize.ShloMosaic.Lib.Claim

@[expose] public section

set_option maxRecDepth 16384

noncomputable section

namespace Cert.KernelIdeal.Values

open Cert.KernelIdeal Cert.KernelIdeal.Gen Cert.KernelIdeal.Body Cert.KernelIdeal.Contents Cert.KernelIdeal.Outs Cert.KernelIdeal.Cover Cert.KernelIdeal.Region Cert.Spec
open Idealize.ShloMosaic Idealize.ShloMosaic.TcCoe Idealize.SL.Sem
open Idealize.ShloMosaic.Pipeline (Dat Cfg Window)

variable (m : (ℓ : Loc nD τ sig) → Buf (Elt Ideal) ℓ) (c : Dev nD)

/-! ## What the grid points leave -/

theorem rowsAt_eq : rowsAt m c = rows (iblk m c 0 pt0) (iblk m c 1 pt0) (iblk m c 2 pt0) :=
  (View.read_writes_eq_canon _ _ _ (A_covS c _ _ _ _ _ _ _ _ _ _ _ _ _ _ _ _ _ _ _ _ _ _ _ _ _ _ _ _ _ _ _ _ _ _)).trans (A_rows c _ _ _ _ _ _ _ _ _ _ _ _ _ _ _ _ _ _ _ _ _ _ _ _ _ _ _ _ _ _ _ _ _ _)

theorem scaleAt_eq : scaleAt m c = scales (iblk m c 0 pt0) (iblk m c 2 pt0) :=
  (View.read_writes_eq_canon _ _ _ (A_cov9 c _ _ _ _ _ _ _ _ _ _ _ _ _ _ _ _ _ _ _ _ _ _ _ _ _ _ _ _ _ _ _ _ _ _)).trans (A_scale c _ _ _ _ _ _ _ _ _ _ _ _ _ _ _ _ _ _ _ _ _ _ _ _ _ _ _ _ _ _ _ _ _ _)

theorem codesAt_eq : codesAt m c = codes (iblk m c 0 pt0) (iblk m c 2 pt0) :=
  (View.read_writes_eq_canon _ _ _ (A_cov8 c _ _ _ _ _ _ _ _ _ _ _ _ _ _ _ _ _ _ _ _ _ _ _ _ _ _ _ _ _ _ _ _ _ _)).trans (A_codes c _ _ _ _ _ _ _ _ _ _ _ _ _ _ _ _ _ _ _ _ _ _ _ _ _ _ _ _ _ _ _ _ _ _)

theorem eq_pt0 (t : Fin cfg0.N) (h : cond0_0 (grid0.coords t)) : t = pt0 := by
  have h1 := (hcond0_0 t).mp h
  have h2 : t.val < 16 := lt_of_lt_of_eq t.isLt (show cfg0.N = 16 from N_0)
  exact Fin.ext (show t.val = 0 by omega)

theorem ydAt_eq (t : Fin cfg0.N) : ydAt m c t = yd (rowsAt m c) (weights (iblk m c 3 t) (iblk m c 4 t) (iblk m c 5 t)) (scaleAt m c) := by
  by_cases h : cond0_0 (grid0.coords t)
  · unfold ydAt
    rw [dif_pos h, eq_pt0 t h, rowsAt_eq, scaleAt_eq]
    exact (View.read_writes_eq_canon _ _ _ (A_cov6 c _ _ _ _ _ _ _ _ _ _ _ _ _ _ _ _ _ _ _ _ _ _ _ _ _ _ _ _ _ _ _ _ _ _)).trans (A_yd c _ _ _ _ _ _ _ _ _ _ _ _ _ _ _ _ _ _ _ _ _ _ _ _ _ _ _ _ _ _ _ _ _ _)
  · unfold ydAt
    rw [dif_neg h]
    exact (View.read_writes_eq_canon _ _ _ (B_cov6 c _ _ _ _ _ _ _ _ _ _ _ _ _ _ _ _ _ _ _ _ _ _ _ _ _ _ _ _ _ _ _ _ _ _ _ _ _)).trans (B_yd c _ _ _ _ _ _ _ _ _ _ _ _ _ _ _ _ _ _ _ _ _ _ _ _ _ _ _ _ _ _ _ _ _ _ _ _ _)

theorem yvAt_eq (t : Fin cfg0.N) : yvAt m c t = yv (rowsAt m c) (weights (iblk m c 3 t) (iblk m c 4 t) (iblk m c 5 t)) := by
  by_cases h : cond0_0 (grid0.coords t)
  · unfold yvAt
    rw [dif_pos h, eq_pt0 t h, rowsAt_eq]
    exact (View.read_writes_eq_canon _ _ _ (A_cov7 c _ _ _ _ _ _ _ _ _ _ _ _ _ _ _ _ _ _ _ _ _ _ _ _ _ _ _ _ _ _ _ _ _ _)).trans (A_yv c _ _ _ _ _ _ _ _ _ _ _ _ _ _ _ _ _ _ _ _ _ _ _ _ _ _ _ _ _ _ _ _ _ _)
  · unfold yvAt
    rw [dif_neg h]
    exact (View.read_writes_eq_canon _ _ _ (B_cov7 c _ _ _ _ _ _ _ _ _ _ _ _ _ _ _ _ _ _ _ _ _ _ _ _ _ _ _ _ _ _ _ _ _ _ _ _ _)).trans (B_yv c _ _ _ _ _ _ _ _ _ _ _ _ _ _ _ _ _ _ _ _ _ _ _ _ _ _ _ _ _ _ _ _ _ _ _ _ _)

/-! ## The blocks, as the arguments -/

/-- The table of signs that the kernel multiplies by. -/
def signs : Vec Ideal S256x256 .bf16 := fun i => Ideal.ofBits .bf16 (lit0 (S256x256.rowMajor i))

/-- A row set without its leading axis. -/
def flat (x : Vec Ideal S1x256x3072 .bf16) : Vec Ideal S256x3072 .bf16 := fun y => x (ix3 0 (y 0 : Fin 256) (y 1 : Fin 3072))

theorem idx2 {n k : ℕ} {i j : (⟨2, ![n, k]⟩ : Shape).Idx} (h0 : (i 0).val = (j 0).val) (h1 : (i 1).val = (j 1).val) : i = j := by
  funext a
  fin_cases a
  · exact Fin.ext h0
  · exact Fin.ext h1

theorem iblk0_eq (t : Fin cfg0.N) : iblk m c 0 t = flat (m ((c.tc : Thread nD τ).loc main_arg0)) := by
  have e : ∀ t : Fin cfg0.N, win0_0.index t = ![0, 0] := (by decide +kernel : ∀ t : Fin grid0.N, _)
  funext y
  have h : (win0_0.blk t).view.emb y = y := idx2 (by blk_simp [e]) (by blk_simp [e])
  blk_simp [iblk]
  refine (congrArg (V m c main_v0) h).trans ?_
  entry_read
  unfold flat
  pointwise

theorem iblk1_eq (t : Fin cfg0.N) : iblk m c 1 t = flat (m ((c.tc : Thread nD τ).loc main_arg1)) := by
  have e : ∀ t : Fin cfg0.N, win0_1.index t = ![0, 0] := (by decide +kernel : ∀ t : Fin grid0.N, _)
  funext y
  have h : (win0_1.blk t).view.emb y = y := idx2 (by blk_simp [e]) (by blk_simp [e])
  blk_simp [iblk]
  refine (congrArg (V m c main_v1) h).trans ?_
  entry_read
  unfold flat
  pointwise

theorem iblk2_eq (t : Fin cfg0.N) : iblk m c 2 t = signs := by
  have e : ∀ t : Fin cfg0.N, win0_2.index t = ![0, 0] := (by decide +kernel : ∀ t : Fin grid0.N, _)
  funext y
  have h : (win0_2.blk t).view.emb y = y := idx2 (by blk_simp [e]) (by blk_simp [e])
  blk_simp [iblk]
  refine (congrArg (V m c main_cst) h).trans ?_
  entry_read
  rfl

/-- Column `b` of the block of grid point `t`. -/
def col (t : Fin cfg0.N) (b : Fin 512) : Fin 8192 := ⟨512 * t.val + b.val, by
  have : t.val < 16 := lt_of_lt_of_eq t.isLt (show cfg0.N = 16 from N_0)
  omega⟩

theorem iblk3_apply (t : Fin cfg0.N) (a : Fin 1536) (b : Fin 512) :
    (iblk m c 3 t : Vec Ideal S1536x512 .i8) (ix2 a b) = m ((c.tc : Thread nD τ).loc main_arg2) (ix2 a (col t b)) := by
  have e : ∀ t : Fin cfg0.N, win0_3.index t = ![0, t.val] := (by decide +kernel : ∀ t : Fin grid0.N, _)
  have h : (win0_3.blk t).view.emb (ix2 a b) = ix2 a (col t b) := idx2 (by blk_simp [e]) (by blk_simp [e]; simp [ix2, col]; omega)
  blk_simp [iblk]
  exact (congrArg (V m c main_arg2) h).trans (congrFun (V_main_arg2 m c) _)

theorem iblk4_apply (t : Fin cfg0.N) (a : Fin 24) (b : Fin 512) :
    (iblk m c 4 t : Vec Ideal S24x512 .f32) (ix2 a b) = m ((c.tc : Thread nD τ).loc main_arg3) (ix2 a (col t b)) := by
  have e : ∀ t : Fin cfg0.N, win0_4.index t = ![0, t.val] := (by decide +kernel : ∀ t : Fin grid0.N, _)
  have h : (win0_4.blk t).view.emb (ix2 a b) = ix2 a (col t b) := idx2 (by blk_simp [e]) (by blk_simp [e]; simp [ix2, col]; omega)
  blk_simp [iblk]
  exact (congrArg (V m c main_arg3) h).trans (congrFun (V_main_arg3 m c) _)

theorem iblk5_apply (t : Fin cfg0.N) (a : Fin 24) (b : Fin 512) :
    (iblk m c 5 t : Vec Ideal S24x512 .f32) (ix2 a b) = m ((c.tc : Thread nD τ).loc main_arg4) (ix2 a (col t b)) := by
  have e : ∀ t : Fin cfg0.N, win0_5.index t = ![0, t.val] := (by decide +kernel : ∀ t : Fin grid0.N, _)
  have h : (win0_5.blk t).view.emb (ix2 a b) = ix2 a (col t b) := idx2 (by blk_simp [e]) (by blk_simp [e]; simp [ix2, col]; omega)
  blk_simp [iblk]
  exact (congrArg (V m c main_arg4) h).trans (congrFun (V_main_arg4 m c) _)

/-! ## The result arrays -/

/-- A decoded weight, row `k`, column `j` of the whole matrix. -/
def W (q : Vec Ideal S1536x8192 .i8) (s z : Vec Ideal S24x8192 .f32) (k : Fin 3072) (j : Fin 8192) : EReal :=
  wt (q (ix2 (⟨k.val / 2, by omega⟩ : Fin 1536) j)) (k.val % 2) (s (ix2 (⟨k.val / 128, by omega⟩ : Fin 24) j)) (z (ix2 (⟨k.val / 128, by omega⟩ : Fin 24) j))

/-- The first result: codes times weights, scaled row by row. -/
def Y0 (x : Vec Ideal S256x3072 .bf16) (q : Vec Ideal S1536x8192 .i8) (s z : Vec Ideal S24x8192 .f32) : Vec Ideal S256x8192 .bf16 := fun y =>
  (∑ k : Fin 3072, codeA x signs (y 0) k * W q s z k (y 1)) * scl (amax x signs (y 0))

/-- The second result: the rotated second row set times weights. -/
def Y1 (v : Vec Ideal S256x3072 .bf16) (q : Vec Ideal S1536x8192 .i8) (s z : Vec Ideal S24x8192 .f32) : Vec Ideal S256x8192 .bf16 := fun y =>
  ∑ k : Fin 3072, rotA v signs (y 0) k * W q s z k (y 1)

theorem weights_at (t : Fin cfg0.N) (k : Fin 3072) (b : Fin 512) :
    weights (iblk m c 3 t) (iblk m c 4 t) (iblk m c 5 t) (ix2 k b)
      = W (m ((c.tc : Thread nD τ).loc main_arg2)) (m ((c.tc : Thread nD τ).loc main_arg3)) (m ((c.tc : Thread nD τ).loc main_arg4)) k (col t b) := by
  show wt _ _ _ _ = wt _ _ _ _
  exact congr (congrArg₂ (fun a d => wt a (k.val % 2) d) (iblk3_apply m c t _ b) (iblk4_apply m c t _ b)) (iblk5_apply m c t _ b)

theorem final6 : (dats m 0 c).arrAt 6 cfg0.N
    = Y0 (flat (m ((c.tc : Thread nD τ).loc main_arg0))) (m ((c.tc : Thread nD τ).loc main_arg2)) (m ((c.tc : Thread nD τ).loc main_arg3)) (m ((c.tc : Thread nD τ).loc main_arg4)) := by
  have e : ∀ t : Fin cfg0.N, win0_6.index t = ![0, t.val] := (by decide +kernel : ∀ t : Fin grid0.N, _)
  refine (dats m 0 c).arrAt_eq_of_covers 6 _ (by decide +kernel) fun t hf y => ?_
  have h : (win0_6.blk t).view.emb y = ix2 (y 0 : Fin 256) (col t (y 1)) := idx2 (by blk_simp [e]) (by blk_simp [e]; simp [ix2, col]; omega)
  blk_simp
  rw [after0_6, ydAt_eq, rowsAt_eq, scaleAt_eq, iblk0_eq, iblk1_eq, iblk2_eq]
  refine Eq.trans ?_ (congrArg (Y0 _ _ _ _) h).symm
  refine congrArg₂ (· * ·) (Finset.sum_congr rfl fun k _ => congrArg₂ (· * ·) ?_ (weights_at m c t k (y 1))) rfl
  exact dif_pos (y 0 : Fin 256).isLt

theorem final7 : (dats m 0 c).arrAt 7 cfg0.N
    = Y1 (flat (m ((c.tc : Thread nD τ).loc main_arg1))) (m ((c.tc : Thread nD τ).loc main_arg2)) (m ((c.tc : Thread nD τ).loc main_arg3)) (m ((c.tc : Thread nD τ).loc main_arg4)) := by
  have e : ∀ t : Fin cfg0.N, win0_7.index t = ![0, t.val] := (by decide +kernel : ∀ t : Fin grid0.N, _)
  refine (dats m 0 c).arrAt_eq_of_covers 7 _ (by decide +kernel) fun t hf y => ?_
  have h : (win0_7.blk t).view.emb y = ix2 (y 0 : Fin 256) (col t (y 1)) := idx2 (by blk_simp [e]) (by blk_simp [e]; simp [ix2, col]; omega)
  blk_simp
  rw [after0_7, yvAt_eq, rowsAt_eq, iblk0_eq, iblk1_eq, iblk2_eq]
  refine Eq.trans ?_ (congrArg (Y1 _ _ _ _) h).symm
  refine (Finset.sum_congr rfl fun k _ => congrArg₂ (· * ·) ?_ (weights_at m c t k (y 1)) : (∑ k : Fin 3072, (_ : EReal)) = ∑ k : Fin 3072, (_ : EReal))
  refine (dif_neg (by show ¬(256 + (y 0).val < 256); omega)).trans ?_
  exact congrArg (fun r => rotA _ signs r k) (Fin.ext (by show 256 + (y 0).val - 256 = (y 0).val; omega))

theorem final8 : (dats m 0 c).arrAt 8 cfg0.N = codes (flat (m ((c.tc : Thread nD τ).loc main_arg0))) signs := by
  have e : ∀ t : Fin cfg0.N, win0_8.index t = ![0, 0] := (by decide +kernel : ∀ t : Fin grid0.N, _)
  refine (dats m 0 c).arrAt_eq_of_covers 8 _ (by decide +kernel) fun t hf y => ?_
  have h : (win0_8.blk t).view.emb y = y := idx2 (by blk_simp [e]) (by blk_simp [e])
  blk_simp
  rw [after0_8, codesAt_eq, iblk0_eq, iblk2_eq]
  exact (congrArg (codes _ signs) h).symm

theorem final9 : (dats m 0 c).arrAt 9 cfg0.N = scales (flat (m ((c.tc : Thread nD τ).loc main_arg0))) signs := by
  have e : ∀ t : Fin cfg0.N, win0_9.index t = ![0, 0] := (by decide +kernel : ∀ t : Fin grid0.N, _)
  refine (dats m 0 c).arrAt_eq_of_covers 9 _ (by decide +kernel) fun t hf y => ?_
  have h : (win0_9.blk t).view.emb y = y := idx2 (by blk_simp [e]) (by blk_simp [e])
  blk_simp
  rw [after0_9, scaleAt_eq, iblk0_eq, iblk2_eq]
  exact (congrArg (scales _ signs) h).symm

end Cert.KernelIdeal.Values

end
-- ==== Proof.Odd.lean ====
/- Signs: (−1) to the number of ones that two numbers share in their last binary digits. -/
module

public import proofs.«01_k».proof.Proof.Spec

@[expose] public section

noncomputable section

namespace Cert.Spec

/-- Whether the last `n` binary digits of `i` and `j` share an odd number of ones. -/
def odd : ℕ → ℕ → ℕ → Bool
  | 0, _, _ => false
  | n + 1, i, j => xor (odd n (i / 2) (j / 2)) (i % 2 == 1 && j % 2 == 1)

/-- The sign: −1 where odd. -/
def sg (b : Bool) : EReal := if b then -1 else 1

theorem sg_step (n i j : ℕ) : sg (odd n (i / 2) (j / 2)) * sg (odd 1 (i % 2) (j % 2)) = sg (odd (n + 1) i j) := by
  have h : odd 1 (i % 2) (j % 2) = (i % 2 == 1 && j % 2 == 1) := by simp [odd]
  rw [h, odd]
  cases odd n (i / 2) (j / 2) <;> cases (i % 2 == 1 && j % 2 == 1) <;> simp [sg]

theorem odd_mod (n i j : ℕ) : odd n (i % 2 ^ n) j = odd n i j := by
  induction n generalizing i j with
  | zero => rfl
  | succ n ih =>
    have h1 : i % 2 ^ (n + 1) / 2 = i / 2 % 2 ^ n := by
      rw [pow_succ, mul_comm, Nat.mod_mul_right_div_self]
    have h2 : i % 2 ^ (n + 1) % 2 = i % 2 := Nat.mod_mod_of_dvd _ (dvd_pow_self 2 (Nat.succ_ne_zero n))
    simp only [odd, h1, h2, ih]

theorem odd_comm (n i j : ℕ) : odd n i j = odd n j i := by
  induction n generalizing i j with
  | zero => rfl
  | succ n ih => simp only [odd, ih (i / 2), Bool.and_comm]

theorem odd_mod_right (n i j : ℕ) : odd n i (j % 2 ^ n) = odd n i j := by
  rw [odd_comm, odd_mod, odd_comm]

end Cert.Spec

end
-- ==== Proof.Signs.lean ====
/- The reference's sign matrix, a seven-fold Kronecker power of the 2 × 2 one, entry by entry; and its rotation. -/
module

public import proofs.«01_k».proof.Proof.Odd
public import proofs.«01_k».proof.Proof.Gen.ReferenceIdeal.Read

@[expose] public section

set_option maxRecDepth 16384

noncomputable section

namespace Cert.ReferenceIdeal.Signs

open Cert.ReferenceIdeal Cert.ReferenceIdeal.Gen Cert.ReferenceIdeal.Read Cert.Spec
open Idealize.ShloMosaic Idealize.ShloMosaic.TcCoe

theorem one_f32 : Ideal.ofBits .f32 0x3F800000#32 = (1 : EReal) := by
  simp [Ideal.ofBits, Ideal.ieee, -EReal.coe_mul]; norm_num

theorem neg_one_f32 : Ideal.ofBits .f32 0xBF800000#32 = (-1 : EReal) := by
  simp [Ideal.ofBits, Ideal.ieee, -EReal.coe_mul]; norm_num

/-- The 2 × 2 matrix. -/
theorem two (i j : Fin 2) : val_main_v16 (F := Ideal) (ix2 i j) = sg (odd 1 i.val j.val) := by
  unfold val_main_v16 val_main_v15 val_main_cst_2 val_main_cst_3
  fin_cases i <;> fin_cases j <;> pointwise <;> simp [odd, sg, one_f32, neg_one_f32]

/-- One step of the power: an entry of the Kronecker product with the 2 × 2 matrix. -/
theorem step {n a b : ℕ} (A : (⟨2, ![a, b]⟩ : Shape).Idx → EReal) (hA : ∀ i j, A (ix2 i j) = sg (odd n i.val j.val))
    (p : (⟨2, ![a, b]⟩ : Shape).Idx) (q : S2x2.Idx) {i j : ℕ}
    (hp0 : (p 0).val = i / 2) (hp1 : (p 1).val = j / 2) (hq0 : (q 0).val = i % 2) (hq1 : (q 1).val = j % 2) :
    FloatOps.mulf (F := Ideal) (φ := .f32) (A p) (val_main_v16 (F := Ideal) q) = sg (odd (n + 1) i j) := by
  have h1 : A p = sg (odd n (i / 2) (j / 2)) := by
    rw [← hp0, ← hp1]
    exact (congrArg A (eq_ix2 p)).trans (hA (p 0) (p 1))
  have h2 : val_main_v16 (F := Ideal) q = sg (odd 1 (i % 2) (j % 2)) := by
    rw [← hq0, ← hq1]
    exact (congrArg _ (eq_ix2 q)).trans (two (q 0) (q 1))
  rw [h1, h2]
  exact sg_step n i j

theorem four (i j : Fin 4) : val_main_v17 (F := Ideal) (ix2 i j) = sg (odd 2 i.val j.val) := by
  rw [val_main_v17_apply, val_main_call6_v4_apply, val_main_call6_v2_apply, val_main_call6_v3_apply, val_main_call6_v0_apply, val_main_call6_v1_apply]
  exact step _ two _ _ (by show (i.val * 4 + j.val) / 8 = _; omega) (by show (i.val * 4 + j.val) / 2 % 2 = _; omega)
    (by show (i.val * 4 + j.val) / 4 % 2 = _; omega) (by show (i.val * 4 + j.val) % 2 = _; omega)

theorem eight (i j : Fin 8) : val_main_v18 (F := Ideal) (ix2 i j) = sg (odd 3 i.val j.val) := by
  rw [val_main_v18_apply, val_main_call7_v4_apply, val_main_call7_v2_apply, val_main_call7_v3_apply, val_main_call7_v0_apply, val_main_call7_v1_apply]
  exact step _ four _ _ (by show (i.val * 8 + j.val) / 16 = _; omega) (by show (i.val * 8 + j.val) / 2 % 4 = _; omega)
    (by show (i.val * 8 + j.val) / 8 % 2 = _; omega) (by show (i.val * 8 + j.val) % 2 = _; omega)

theorem sixteen (i j : Fin 16) : val_main_v19 (F := Ideal) (ix2 i j) = sg (odd 4 i.val j.val) := by
  rw [val_main_v19_apply, val_main_call8_v4_apply, val_main_call8_v2_apply, val_main_call8_v3_apply, val_main_call8_v0_apply, val_main_call8_v1_apply]
  exact step _ eight _ _ (by show (i.val * 16 + j.val) / 32 = _; omega) (by show (i.val * 16 + j.val) / 2 % 8 = _; omega)
    (by show (i.val * 16 + j.val) / 16 % 2 = _; omega) (by show (i.val * 16 + j.val) % 2 = _; omega)

theorem thirtyTwo (i j : Fin 32) : val_main_v20 (F := Ideal) (ix2 i j) = sg (odd 5 i.val j.val) := by
  rw [val_main_v20_apply, val_main_call9_v4_apply, val_main_call9_v2_apply, val_main_call9_v3_apply, val_main_call9_v0_apply, val_main_call9_v1_apply]
  exact step _ sixteen _ _ (by show (i.val * 32 + j.val) / 64 = _; omega) (by show (i.val * 32 + j.val) / 2 % 16 = _; omega)
    (by show (i.val * 32 + j.val) / 32 % 2 = _; omega) (by show (i.val * 32 + j.val) % 2 = _; omega)

theorem sixtyFour (i j : Fin 64) : val_main_v21 (F := Ideal) (ix2 i j) = sg (odd 6 i.val j.val) := by
  rw [val_main_v21_apply, val_main_call10_v4_apply, val_main_call10_v2_apply, val_main_call10_v3_apply, val_main_call10_v0_apply, val_main_call10_v1_apply]
  exact step _ thirtyTwo _ _ (by show (i.val * 64 + j.val) / 128 = _; omega) (by show (i.val * 64 + j.val) / 2 % 32 = _; omega)
    (by show (i.val * 64 + j.val) / 64 % 2 = _; omega) (by show (i.val * 64 + j.val) % 2 = _; omega)

theorem oneTwentyEight (i j : Fin 128) : val_main_v22 (F := Ideal) (ix2 i j) = sg (odd 7 i.val j.val) := by
  rw [val_main_v22_apply, val_main_call11_v4_apply, val_main_call11_v2_apply, val_main_call11_v3_apply, val_main_call11_v0_apply, val_main_call11_v1_apply]
  exact step _ sixtyFour _ _ (by show (i.val * 128 + j.val) / 256 = _; omega) (by show (i.val * 128 + j.val) / 2 % 64 = _; omega)
    (by show (i.val * 128 + j.val) / 128 % 2 = _; omega) (by show (i.val * 128 + j.val) % 2 = _; omega)

/-- An entry of the scaled sign matrix. -/
theorem had_apply (i j : Fin 128) : val_main_v24 (F := Ideal) (ix2 i j) = sg (odd 7 i.val j.val) * Ideal.ofBits .f32 0x3DB504F3#32 := by
  rw [val_main_v24_apply, oneTwentyEight, val_main_v23_apply, val_main_cst_4_apply]
  rfl

/-- One entry of a rotated row set. -/
def rotR (x : Vec Ideal S1x256x3072 .bf16) (r : Fin 256) (c : Fin 3072) : EReal :=
  ∑ k : Fin 128, x (ix3 0 r (⟨128 * (c.val / 128) + k.val, by omega⟩ : Fin 3072)) * (sg (odd 7 k.val (c.val % 128)) * Ideal.ofBits .f32 0x3DB504F3#32)

/-- The rotation, entry by entry. -/
theorem rotate_apply (x : Vec Ideal S1x256x3072 .bf16) (r : Fin 256) (c : Fin 3072) :
    val_main_v28 (F := Ideal) x (ix3 0 r c) = rotR x r c := by
  rw [val_main_v28_apply, val_main_v27_apply]
  refine Finset.sum_congr rfl fun k _ => ?_
  rw [val_main_v26_apply, val_main_v25_apply]
  refine congrArg₂ (· * ·) (congrArg x ?_) ?_
  · funext a
    fin_cases a
    · exact Fin.ext (by simp [ix3])
    · exact Fin.ext (by simp [ix3]; omega)
    · exact Fin.ext (by simp [ix3]; omega)
  · refine (congrArg _ (eq_ix2 _)).trans ((had_apply _ _).trans ?_)
    refine congrArg (fun n => sg (odd 7 k.val n) * _) ?_
    simp [ix3]
    omega

end Cert.ReferenceIdeal.Signs

end
-- ==== Proof.Product.lean ====
/- The reference's product of rows and decoded weights, entry by entry. -/
module

public import proofs.«01_k».proof.Proof.Signs
public import proofs.«01_k».proof.Proof.Spec
public import Idealize.ShloMosaic.Lib.TwoAxisContraction

@[expose] public section

set_option maxRecDepth 16384

noncomputable section

namespace Cert.ReferenceIdeal.Product

open Cert.ReferenceIdeal Cert.ReferenceIdeal.Gen Cert.ReferenceIdeal.Read Cert.ReferenceIdeal.Signs Cert.Spec
open Idealize.ShloMosaic Idealize.ShloMosaic.TcCoe
open Idealize.ShloMosaic.ValueIdx (contrEquiv2 contrEquiv2_symm_val0 contrEquiv2_symm_val1 sum_contr2)

variable (x1 r1 : Vec Ideal S1x256x3072 .bf16) (x2 : Vec Ideal S1536x8192 .i8) (x3 x4 : Vec Ideal S24x8192 .f32)

/-- Two arrays stacked, read in the first. -/
theorem stack_zero {α : Type} {a b : ℕ} (X Y : (⟨3, ![1, a, b]⟩ : Shape).Idx → α) (h : Shape.Concatenates [⟨3, ![1, a, b]⟩, ⟨3, ![1, a, b]⟩] ⟨3, ![2, a, b]⟩ 0)
    (i : Fin a) (j : Fin b) : concatenate (⟨3, ![2, a, b]⟩ : Shape) 0 [⟨⟨3, ![1, a, b]⟩, X⟩, ⟨⟨3, ![1, a, b]⟩, Y⟩] h (ix3 0 i j) = X (ix3 0 i j) := by
  refine concatenate_pair_apply_left (t := ⟨3, ![2, a, b]⟩) 0 X Y h (ix3 0 i j) rfl (ix3 0 i j) ?_
  intro b
  fin_cases b <;> rfl

/-- Two arrays stacked, read in the second. -/
theorem stack_one {α : Type} {a b : ℕ} (X Y : (⟨3, ![1, a, b]⟩ : Shape).Idx → α) (h : Shape.Concatenates [⟨3, ![1, a, b]⟩, ⟨3, ![1, a, b]⟩] ⟨3, ![2, a, b]⟩ 0)
    (i : Fin a) (j : Fin b) : concatenate (⟨3, ![2, a, b]⟩ : Shape) 0 [⟨⟨3, ![1, a, b]⟩, X⟩, ⟨⟨3, ![1, a, b]⟩, Y⟩] h (ix3 1 i j) = Y (ix3 0 i j) := by
  refine concatenate_pair_apply_right (t := ⟨3, ![2, a, b]⟩) 0 X Y h (ix3 1 i j) rfl rfl (ix3 0 i j) ?_ rfl
  intro b hb
  fin_cases b
  · exact absurd rfl hb
  · rfl
  · rfl

/-- The first row set of the product is the codes. -/
theorem rows_zero (s : Fin 256) (k : Fin 3072) : val_main_v30 (F := Ideal) x1 r1 (ix3 0 s k) = r1 (ix3 0 s k) := by
  unfold val_main_v30
  exact stack_zero r1 (val_main_v29 (F := Ideal) x1) _ s k

/-- The second row set of the product is the rotated one. -/
theorem rows_one (s : Fin 256) (k : Fin 3072) : val_main_v30 (F := Ideal) x1 r1 (ix3 1 s k) = rotR x1 s k := by
  unfold val_main_v30
  refine (stack_one r1 (val_main_v29 (F := Ideal) x1) _ s k).trans ?_
  exact rotate_apply x1 s k

/-- A row of the product, cut into pairs of entries. -/
theorem pair_apply (b : Fin 2) (s : Fin 256) (k : Fin 1536) (t : Fin 2) :
    val_main_v31 (F := Ideal) x1 r1 (ix4 b s k t) = val_main_v30 (F := Ideal) x1 r1 (ix3 b s (⟨2 * k.val + t.val, by omega⟩ : Fin 3072)) := by
  rw [val_main_v31_apply]
  congr 1
  funext a
  fin_cases a
  · exact Fin.ext (by simp [ix3, ix4]; omega)
  · exact Fin.ext (by simp [ix3, ix4]; omega)
  · exact Fin.ext (by simp [ix3, ix4]; omega)

theorem byte_low (i : S1536x8192.Idx) : val_main_v34 (F := Ideal) x2 i = IntOp.andi (BitVec.setWidth 32 (x2 i)) 15#32 := by
  rw [val_main_v34_apply, val_main_v32_apply, val_main_v33_apply, val_main_c_apply]

theorem byte_high (i : S1536x8192.Idx) : val_main_v36 (F := Ideal) x2 i = IntOp.shrsi ArithUnit.vector (BitVec.setWidth 32 (x2 i)) 4#32 := by
  rw [val_main_v36_apply, val_main_v32_apply, val_main_v35_apply, val_main_c_5_apply]
  rfl

/-- A nibble, as a number. -/
theorem nib_apply (t : Fin 2) (k : Fin 1536) (n : Fin 8192) :
    val_main_v40 (F := Ideal) x2 (ix3 t k n) = nib (x2 (ix2 k n)) t.val := by
  rw [val_main_v40_apply]
  unfold nib
  congr 1
  unfold val_main_v39
  fin_cases t
  · refine (stack_zero (val_main_v37 (F := Ideal) x2) (val_main_v38 (F := Ideal) x2) _ k n).trans ?_
    rw [val_main_v37_apply]
    exact (congrArg (val_main_v34 (F := Ideal) x2) (eq_ix2 _)).trans (byte_low x2 _)
  · refine (stack_one (val_main_v37 (F := Ideal) x2) (val_main_v38 (F := Ideal) x2) _ k n).trans ?_
    rw [val_main_v38_apply]
    exact (congrArg (val_main_v36 (F := Ideal) x2) (eq_ix2 _)).trans (byte_high x2 _)

/-- A decoded weight. -/
theorem weight_apply (t : Fin 2) (k : Fin 1536) (n : Fin 8192) :
    val_main_v50 (F := Ideal) x2 x3 x4 (ix3 t k n)
      = wt (x2 (ix2 k n)) t.val (x3 (ix2 (⟨k.val / 64, by omega⟩ : Fin 24) n)) (x4 (ix2 (⟨k.val / 64, by omega⟩ : Fin 24) n)) := by
  rw [val_main_v50_apply, val_main_v49_apply, val_main_v47_apply, val_main_v41_apply, val_main_v46_apply, val_main_v43_apply, val_main_v42_apply,
    val_main_v48_apply, val_main_v45_apply, val_main_v44_apply]
  have h2 : ∀ i : S2x1536x8192.Idx, (i 0).val = t.val → (i 1).val = k.val → (i 2).val = n.val → val_main_v40 (F := Ideal) x2 i = nib (x2 (ix2 k n)) t.val := by
    intro i h0 h1 h2
    have e : i = ix3 t k n := by funext a; fin_cases a <;> apply Fin.ext <;> [exact h0; exact h1; exact h2]
    rw [e, nib_apply]
  have h3 : ∀ (x : Vec Ideal S24x8192 .f32) (i : S24x8192.Idx), (i 0).val = k.val / 64 → (i 1).val = n.val → x i = x (ix2 (⟨k.val / 64, by omega⟩ : Fin 24) n) := by
    intro x i h0 h1
    congr 1
    funext a; fin_cases a <;> apply Fin.ext <;> [exact h0; exact h1]
  refine congrArg₂ (fun a b : EReal => a * b) (congrArg₂ (fun a b : EReal => a - b) (h2 _ ?_ ?_ ?_) (h3 x4 _ ?_ ?_)) (h3 x3 _ ?_ ?_)
  all_goals simp [ix3]
  all_goals omega

/-- The product: rows times weights, over pairs and the two nibbles of a byte. -/
theorem product_apply (b : Fin 2) (s : Fin 256) (n : Fin 8192) :
    val_main_v51 (F := Ideal) x1 x2 x3 x4 r1 (ix3 b s n)
      = ∑ k : Fin 1536, ∑ t : Fin 2, val_main_v30 (F := Ideal) x1 r1 (ix3 b s (⟨2 * k.val + t.val, by omega⟩ : Fin 3072))
          * wt (x2 (ix2 k n)) t.val (x3 (ix2 (⟨k.val / 64, by omega⟩ : Fin 24) n)) (x4 (ix2 (⟨k.val / 64, by omega⟩ : Fin 24) n)) := by
  unfold val_main_v51
  simp only [← pair_apply, ← weight_apply]
  generalize val_main_v31 (F := Ideal) x1 r1 = L
  generalize val_main_v50 (F := Ideal) x2 x3 x4 = R
  let D := dot_S2x256x1536x2_S2x1536x8192_S2x256x8192_23_10_01_2_n_n
  have hr : D.contr.rank = 2 := rfl
  have c0 : D.contr.size ⟨0, by rw [hr]; omega⟩ = 1536 := rfl
  have c1 : D.contr.size ⟨1, by rw [hr]; omega⟩ = 2 := rfl
  simp only [Host.dotGeneral]
  rw [Ideal.dotGeneral_apply, sum_contr2 D 1536 2 hr c0 c1]
  refine Finset.sum_congr rfl fun k _ => Finset.sum_congr rfl fun t _ => ?_
  have h0 := contrEquiv2_symm_val0 D 1536 2 hr c0 c1 (k, t)
  have h1 := contrEquiv2_symm_val1 D 1536 2 hr c0 c1 (k, t)
  have el : D.lhsIdx (ix3 b s n) ((contrEquiv2 D 1536 2 hr c0 c1).symm (k, t)) = ix4 b s k t := by
    funext a; apply Fin.ext
    match a with
    | ⟨0, _⟩ => rfl
    | ⟨1, _⟩ => rfl
    | ⟨2, _⟩ => exact h0
    | ⟨3, _⟩ => exact h1
  have er : D.rhsIdx (ix3 b s n) ((contrEquiv2 D 1536 2 hr c0 c1).symm (k, t)) = ix3 t k n := by
    funext a; apply Fin.ext
    match a with
    | ⟨0, _⟩ => exact h1
    | ⟨1, _⟩ => exact h0
    | ⟨2, _⟩ => rfl
  exact congrArg₂ (fun a b : EReal => a * b) (congrArg L el) (congrArg R er)

end Cert.ReferenceIdeal.Product

end
-- ==== Proof.Entry.lean ====
/- What the reference's quantiser finds in its input: the rotated first row set. -/
module

public import proofs.«01_k».proof.Proof.Signs
public import Idealize.ShloMosaic.Lib.Claim

@[expose] public section

set_option maxRecDepth 16384

noncomputable section

namespace Cert.ReferenceIdeal.Quant

open Cert.ReferenceIdeal Cert.ReferenceIdeal.Gen Cert.ReferenceIdeal.Read
open Idealize.ShloMosaic Idealize.ShloMosaic.TcCoe Idealize.SL.Sem

variable (m : (ℓ : Loc nD τ sig) → Buf (Elt Ideal) ℓ) (c : Dev nD)

/-- The quantiser finds the rotated first row set. -/
theorem entry : V m c main_v13 = val_main_v28 (F := Ideal) (m ((c.tc : Thread nD τ).loc main_arg0)) := by
  rfl

end Cert.ReferenceIdeal.Quant

end
-- ==== Proof.Quant.lean ====
/- What the reference's quantiser leaves: codes as integers, codes as numbers, and scales, of the rotated first row set. -/
module

public import proofs.«01_k».proof.Proof.Entry
public import Idealize.ShloMosaic.Lib.Pipeline.ValueKit
public import Idealize.ShloMosaic.Lib.Claim

@[expose] public section

set_option maxRecDepth 16384

noncomputable section

namespace Cert.ReferenceIdeal.Quant

open Cert.ReferenceIdeal Cert.ReferenceIdeal.Gen Cert.ReferenceIdeal.Read Cert.ReferenceIdeal.Signs Cert.Spec
open Idealize.ShloMosaic Idealize.ShloMosaic.TcCoe Idealize.SL.Sem
open Idealize.ShloMosaic.Pipeline (Dat Cfg Window)

/-- A row's scale. -/
theorem scale_apply (x : Vec Ideal S1x256x3072 .f32) (r : Fin 256) :
    k0_pay2 (F := Ideal) x (ix2 0 r) = scl (⨆ c : Fin 3072, absE (x (ix3 0 r c))) := by
  pointwise [k0_pay2, k0_pay1, scl]
  have hb : Ideal.ofBits FTy.f32 0xFF800000#32 = (⊥ : EReal) := by
    simp [Ideal.ofBits, Ideal.ieee]
  have : ∀ f : Fin 3072 → EReal, Finset.fold max ⊥ f Finset.univ = ⨆ k, f k := by
    intro f; rw [← Finset.sup_univ_eq_iSup]; rfl
  rw [hb]
  exact congrArg (fun a => if a = (0 : EReal) then (1 : EReal) else Ideal.div a (Ideal.ofBits FTy.f32 0x40E00000#32)) (this _)

/-- One code. -/
theorem code_apply (x : Vec Ideal S1x256x3072 .f32) (r : Fin 256) (c : Fin 3072) :
    k0_pay3 (F := Ideal) x (ix3 0 r c) = Ideal.fptosi 8 (code (x (ix3 0 r c)) (k0_pay2 (F := Ideal) x (ix2 0 r))) := by
  pointwise [k0_pay3, k0_pay1, code]
  rfl

variable (m : (ℓ : Loc nD τ sig) → Buf (Elt Ideal) ℓ) (c : Dev nD)

theorem iblk_eq (t : Fin cfg0.N) : iblk m c 0 t = val_main_v28 (F := Ideal) (m ((c.tc : Thread nD τ).loc main_arg0)) := by
  have e : ∀ t : Fin cfg0.N, win0_0.index t = ![0, 0, 0] := (by decide +kernel : ∀ t : Fin grid0.N, _)
  funext y
  have h : (win0_0.blk t).view.emb y = y := by
    funext a
    fin_cases a <;> exact Fin.ext (by blk_simp [e])
  blk_simp [iblk]
  exact (congrArg (V m c main_v13) h).trans (congrFun (entry m c) y)

/-- Reading the whole of an array gives the array. -/
theorem ld_whole {S : Shape} {e : EltTy} (X : Vec Ideal S e) (off : Fin S.rank → ℕ) (h : ∀ a, off a = 0) (inb) :
    View.ld (Val := Elt Ideal) X (Rect.unit off S.size inb) = X := by
  funext y
  unfold View.ld
  congr 1
  funext a
  exact Fin.ext (by simp [h a])

theorem out1_eq (x : Vec Ideal S1x256x3072 .f32) : out0_1 (F := Ideal) x = k0_pay3 (F := Ideal) x :=
  (View.canon_cons_unit_lit _ _ [] (by decide)).trans (congrArg (k0_pay3 (F := Ideal)) (ld_whole (e := .f32) x ![0, 0, 0] (by decide) _))

theorem out2_eq (x : Vec Ideal S1x256x3072 .f32) : out0_2 (F := Ideal) x = k0_pay4 (F := Ideal) x :=
  (View.canon_cons_unit_lit _ _ [] (by decide)).trans (congrArg (k0_pay4 (F := Ideal)) (ld_whole (e := .f32) x ![0, 0, 0] (by decide) _))

theorem out3_eq (x : Vec Ideal S1x256x3072 .f32) : out0_3 (F := Ideal) x = k0_pay2 (F := Ideal) x :=
  (View.canon_cons_unit_lit _ _ [] (by decide)).trans (congrArg (k0_pay2 (F := Ideal)) (ld_whole (e := .f32) x ![0, 0, 0] (by decide) _))

/-- The codes, as integers. -/
theorem final1 : (dats m 0 c).arrAt 1 cfg0.N = k0_pay3 (F := Ideal) (val_main_v28 (F := Ideal) (m ((c.tc : Thread nD τ).loc main_arg0))) := by
  have e : ∀ t : Fin cfg0.N, win0_1.index t = ![0, 0, 0] := (by decide +kernel : ∀ t : Fin grid0.N, _)
  refine (dats m 0 c).arrAt_eq_of_covers 1 _ (by decide +kernel) fun t hf y => ?_
  have h : (win0_1.blk t).view.emb y = y := by
    funext a
    fin_cases a <;> exact Fin.ext (by blk_simp [e])
  blk_simp
  rw [after0_1, out1_eq, iblk_eq]
  exact (congrArg (k0_pay3 (F := Ideal) _) h).symm

/-- The codes, as numbers. -/
theorem final2 : (dats m 0 c).arrAt 2 cfg0.N = k0_pay4 (F := Ideal) (val_main_v28 (F := Ideal) (m ((c.tc : Thread nD τ).loc main_arg0))) := by
  have e : ∀ t : Fin cfg0.N, win0_2.index t = ![0, 0, 0] := (by decide +kernel : ∀ t : Fin grid0.N, _)
  refine (dats m 0 c).arrAt_eq_of_covers 2 _ (by decide +kernel) fun t hf y => ?_
  have h : (win0_2.blk t).view.emb y = y := by
    funext a
    fin_cases a <;> exact Fin.ext (by blk_simp [e])
  blk_simp
  rw [after0_2, out2_eq, iblk_eq]
  exact (congrArg (k0_pay4 (F := Ideal) _) h).symm

/-- The scales. -/
theorem final3 : (dats m 0 c).arrAt 3 cfg0.N = k0_pay2 (F := Ideal) (val_main_v28 (F := Ideal) (m ((c.tc : Thread nD τ).loc main_arg0))) := by
  have e : ∀ t : Fin cfg0.N, win0_3.index t = ![0, 0] := (by decide +kernel : ∀ t : Fin grid0.N, _)
  refine (dats m 0 c).arrAt_eq_of_covers 3 _ (by decide +kernel) fun t hf y => ?_
  have h : (win0_3.blk t).view.emb y = y := by
    funext a
    fin_cases a <;> exact Fin.ext (by blk_simp [e])
  blk_simp
  rw [after0_3, out3_eq, iblk_eq]
  exact (congrArg (k0_pay2 (F := Ideal) _) h).symm

end Cert.ReferenceIdeal.Quant

end
-- ==== Proof.Round.lean ====
/- Two facts of arithmetic: a code, being a whole number from −7 to 7, survives being stored as an 8-bit integer; and a sum
   of 256 terms that vanish outside one half is the sum over that half. -/
module

public import proofs.«01_k».proof.Proof.Spec

@[expose] public section

noncomputable section

namespace Cert.Spec

open Idealize.ShloMosaic

theorem seven_f32 : Ideal.ofBits .f32 0x40E00000#32 = (((7 : ℤ) : ℝ) : EReal) := by
  simp [Ideal.ofBits, Ideal.ieee, -EReal.coe_mul]; norm_num

theorem neg_seven_f32 : Ideal.ofBits .f32 0xC0E00000#32 = (((-7 : ℤ) : ℝ) : EReal) := by
  simp [Ideal.ofBits, Ideal.ieee, -EReal.coe_mul]; norm_num

/-- A code is a whole number from −7 to 7. -/
theorem code_int (x s : EReal) : ∃ n : ℤ, -7 ≤ n ∧ n ≤ 7 ∧ code x s = ((n : ℝ) : EReal) := by
  unfold code
  rw [seven_f32, neg_seven_f32]
  generalize Ideal.div x s = y
  induction y using EReal.rec with
  | bot => exact ⟨-7, by norm_num, by norm_num, by
      show min _ (max _ (⊥ : EReal)) = _
      rw [max_bot_right]
      exact min_eq_right (EReal.coe_le_coe_iff.2 (by norm_num))⟩
  | top => exact ⟨7, by norm_num, by norm_num, by
      show min _ (max _ (⊤ : EReal)) = _
      rw [max_top_right, min_top_right]⟩
  | coe r =>
    refine ⟨min 7 (max (-7) (Ideal.roundHalfEven r)), by omega, by omega, ?_⟩
    show min _ (max _ (((Ideal.roundHalfEven r : ℤ) : ℝ) : EReal)) = _
    generalize Ideal.roundHalfEven r = n
    have hmono : Monotone fun n : ℤ => ((n : ℝ) : EReal) := fun a b h => EReal.coe_le_coe_iff.2 (by exact_mod_cast h)
    rw [hmono.map_min, hmono.map_max]

/-- Storing a code as an 8-bit integer loses nothing. -/
theorem code_stored (x s : EReal) : FloatOps.sitofp (F := Ideal) .bf16 (Ideal.fptosi 8 (code x s)) = code x s := by
  obtain ⟨n, h1, h2, h⟩ := code_int x s
  rw [h]
  show (((Ideal.fptosi 8 ((n : ℝ) : EReal)).toInt : ℝ) : EReal) = _
  have e : Ideal.fptosi 8 ((n : ℝ) : EReal) = BitVec.ofInt 8 n := by
    unfold Ideal.fptosi
    congr 1
    rw [Ideal.toIntClamped_coe]
    simp only [Int.floor_intCast, Int.ceil_intCast, ite_self]
    norm_num
    omega
  have t : (BitVec.ofInt 8 n).toInt = n := by
    rw [BitVec.toInt_ofInt]
    exact Int.bmod_eq_of_le (by norm_num; omega) (by norm_num; omega)
  rw [e, t]

/-- A sum of 256 terms that vanish outside one half. -/
theorem sum_half (F : Fin 256 → EReal) (G : Fin 128 → EReal) (b : Fin 2) (h0 : ∀ k : Fin 256, k.val / 128 ≠ b.val → F k = 0)
    (h1 : ∀ k : Fin 128, F ⟨128 * b.val + k.val, by omega⟩ = G k) : ∑ k, F k = ∑ k, G k := by
  refine (Fintype.sum_of_injective (fun k : Fin 128 => (⟨128 * b.val + k.val, by omega⟩ : Fin 256)) ?_ G F ?_ fun k => (h1 k).symm).symm
  · intro a c h
    have := congrArg Fin.val h
    exact Fin.ext (by simpa using this)
  · intro k hk
    refine h0 k fun e => hk ⟨⟨k.val % 128, by omega⟩, Fin.ext ?_⟩
    show 128 * b.val + k.val % 128 = k.val
    omega

/-- A nonnegative finite factor goes into a sum of extended reals. -/
theorem sum_mul_fin {ι : Type} (s : Finset ι) (f : ι → EReal) {a : EReal} (h0 : 0 ≤ a) (h1 : a ≠ ⊤) : (∑ k ∈ s, f k) * a = ∑ k ∈ s, f k * a := by
  classical
  induction s using Finset.induction_on with
  | empty => simp
  | insert k s hk ih => rw [Finset.sum_insert hk, Finset.sum_insert hk, EReal.right_distrib_of_nonneg_of_ne_top h0 h1, ih]

/-- A sum over 3072 as a sum over pairs. -/
theorem sum_pairs (f : Fin 3072 → EReal) : ∑ k, f k = ∑ k : Fin 1536, ∑ t : Fin 2, f ⟨2 * k.val + t.val, by omega⟩ := by
  rw [← Fintype.sum_prod_type' (f := fun (k : Fin 1536) (t : Fin 2) => f ⟨2 * k.val + t.val, by omega⟩)]
  refine (Equiv.sum_comp (finProdFinEquiv : Fin 1536 × Fin 2 ≃ Fin 3072) f).symm.trans ?_
  refine Finset.sum_congr rfl fun p _ => congrArg f (Fin.ext ?_)
  show p.2.val + 2 * p.1.val = 2 * p.1.val + p.2.val
  omega

end Cert.Spec

end
-- ==== Proof.Agree.lean ====
/- The two programs' results are the same functions of the arguments. -/
module

public import proofs.«01_k».proof.Proof.Values
public import proofs.«01_k».proof.Proof.Product
public import proofs.«01_k».proof.Proof.Quant
public import proofs.«01_k».proof.Proof.Round

@[expose] public section

set_option maxRecDepth 16384

noncomputable section

namespace Cert.Agree

open Cert.KernelIdeal.Contents Cert.KernelIdeal.Values Cert.Spec
open Cert.ReferenceIdeal.Gen Cert.ReferenceIdeal.Read Cert.ReferenceIdeal.Signs Cert.ReferenceIdeal.Product Cert.ReferenceIdeal.Quant
open Idealize.ShloMosaic

/-- The kernel's table of signs is two copies of the reference's matrix on the diagonal. -/
def IsSigns (h : Vec Ideal Cert.KernelIdeal.S256x256 .bf16) : Prop :=
  ∀ k c : Fin 256, h (ix2 k c) = if k.val / 128 = c.val / 128 then sg (odd 7 k.val c.val) else 0

theorem norm_pos : 0 ≤ Ideal.ofBits .f32 0x3DB504F3#32 ∧ Ideal.ofBits .f32 0x3DB504F3#32 ≠ ⊤ := by
  have e : Ideal.ofBits .f32 0x3DB504F3#32 = ((11863283 / 134217728 : ℝ) : EReal) := by
    simp [Ideal.ofBits, Ideal.ieee, -EReal.coe_mul]; norm_num
  rw [e]
  exact ⟨EReal.coe_nonneg.2 (by norm_num), EReal.coe_ne_top _⟩

variable (x : Vec Ideal Cert.ReferenceIdeal.S1x256x3072 .bf16) {h : Vec Ideal Cert.KernelIdeal.S256x256 .bf16} (hh : IsSigns h)

include hh

/-- The rotations agree. -/
theorem rotA_eq (r : Fin 256) (c : Fin 3072) : rotA (flat x) h r c = rotR x r c := by
  unfold rotA rotR
  rw [sum_mul_fin _ _ norm_pos.1 norm_pos.2]
  refine sum_half _ _ (⟨c.val / 128 % 2, by omega⟩ : Fin 2) (fun k hk => ?_) fun k => ?_
  · rw [hh, if_neg (by show ¬ k.val / 128 = c.val % 256 / 128; simp only at hk; omega), mul_zero, zero_mul]
  · rw [hh, if_pos (by show (128 * (c.val / 128 % 2) + k.val) / 128 = c.val % 256 / 128; omega), mul_assoc]
    have e1 : odd 7 (128 * (c.val / 128 % 2) + k.val) (c.val % 256) = odd 7 k.val (c.val % 128) := by
      rw [← odd_mod 7 (128 * _ + _), ← odd_mod_right 7 _ (c.val % 256)]
      congr 1
      · show (128 * (c.val / 128 % 2) + k.val) % 128 = k.val
        omega
      · show c.val % 256 % 128 = c.val % 128
        omega
    refine congrArg₂ (fun a b : EReal => a * b) ?_ (congrArg (fun b => sg b * _) e1)
    show x (ix3 0 r _) = x (ix3 0 r _)
    exact congrArg (fun k => x (ix3 0 r k)) (Fin.ext (by show 256 * (c.val / 256) + (128 * (c.val / 128 % 2) + k.val) = 128 * (c.val / 128) + k.val; omega))

theorem amax_eq (r : Fin 256) : amax (flat x) h r = ⨆ c : Fin 3072, absE (val_main_v28 (F := Ideal) x (ix3 0 r c)) :=
  iSup_congr fun c => congrArg absE ((rotA_eq x hh r c).trans (rotate_apply x r c).symm)

/-- The scales agree. -/
theorem scale_eq (r : Fin 256) : k0_pay2 (F := Ideal) (val_main_v28 (F := Ideal) x) (ix2 0 r) = scl (amax (flat x) h r) := by
  rw [scale_apply, amax_eq x hh]

/-- The codes agree. -/
theorem code_eq (r : Fin 256) (c : Fin 3072) : k0_pay3 (F := Ideal) (val_main_v28 (F := Ideal) x) (ix3 0 r c) = Ideal.fptosi 8 (codeA (flat x) h r c) := by
  rw [code_apply, scale_eq x hh, rotate_apply, ← rotA_eq x hh]
  rfl

theorem number_eq (r : Fin 256) (c : Fin 3072) : k0_pay4 (F := Ideal) (val_main_v28 (F := Ideal) x) (ix3 0 r c) = codeA (flat x) h r c := by
  show FloatOps.sitofp (F := Ideal) .bf16 (k0_pay3 (F := Ideal) (val_main_v28 (F := Ideal) x) (ix3 0 r c)) = _
  rw [code_eq x hh]
  exact code_stored _ _

omit hh in
/-- The products agree, row by row. -/
theorem product_eq (q : Vec Ideal Cert.ReferenceIdeal.S1536x8192 .i8) (s z : Vec Ideal Cert.ReferenceIdeal.S24x8192 .f32)
    (a b : Fin 3072 → EReal) (hab : ∀ k, a k = b k) (n : Fin 8192) :
    ∑ k : Fin 1536, ∑ t : Fin 2, a (⟨2 * k.val + t.val, by omega⟩ : Fin 3072)
        * wt (q (ix2 k n)) t.val (s (ix2 (⟨k.val / 64, by omega⟩ : Fin 24) n)) (z (ix2 (⟨k.val / 64, by omega⟩ : Fin 24) n))
      = ∑ k : Fin 3072, b k * W q s z k n := by
  rw [sum_pairs fun k => b k * W q s z k n]
  refine Finset.sum_congr rfl fun k _ => Finset.sum_congr rfl fun t _ => ?_
  refine congrArg₂ (fun a b : EReal => a * b) (hab _) ?_
  have e1 : (⟨(2 * k.val + t.val) / 2, by omega⟩ : Fin 1536) = k := Fin.ext (by show (2 * k.val + t.val) / 2 = k.val; omega)
  have e2 : (2 * k.val + t.val) % 2 = t.val := by omega
  have e3 : (⟨(2 * k.val + t.val) / 128, by omega⟩ : Fin 24) = ⟨k.val / 64, by omega⟩ := Fin.ext (by show (2 * k.val + t.val) / 128 = k.val / 64; omega)
  unfold W
  simp only [e1, e2, e3]

variable (v : Vec Ideal Cert.ReferenceIdeal.S1x256x3072 .bf16) (q : Vec Ideal Cert.ReferenceIdeal.S1536x8192 .i8) (s z : Vec Ideal Cert.ReferenceIdeal.S24x8192 .f32)

omit hh in
/-- The first results agree. -/
theorem result0 (hh : IsSigns signs) :
    val_main_v59 (F := Ideal) v q s z (k0_pay4 (F := Ideal) (val_main_v28 (F := Ideal) x)) (k0_pay2 (F := Ideal) (val_main_v28 (F := Ideal) x)) = Y0 (flat x) q s z := by
  funext y
  have h0 : (y 0).val < 256 := (y 0).isLt
  have h1 : (y 1).val < 8192 := (y 1).isLt
  rw [val_main_v59_apply, val_main_v57_apply, val_main_v56_apply, val_main_v52_apply, val_main_v55_apply, val_main_v54_apply]
  refine congrArg₂ (fun a b : EReal => a * b) ?_ ?_
  · refine (congrArg _ (?_ : _ = ix3 0 (y 0 : Fin 256) (y 1 : Fin 8192))).trans ((product_apply v _ q s z 0 (y 0) (y 1)).trans ?_)
    · funext a
      fin_cases a
      · rfl
      · exact Fin.ext (by show ((y 0).val * 8192 + (y 1).val) / 8192 % 256 = (y 0).val; omega)
      · exact Fin.ext (by show ((y 0).val * 8192 + (y 1).val) % 8192 = (y 1).val; omega)
    · exact product_eq q s z (fun k => val_main_v30 (F := Ideal) v _ (ix3 0 (y 0) k)) (fun k => codeA (flat x) signs (y 0) k)
        (fun k => (rows_zero v _ (y 0) k).trans (number_eq x hh (y 0) k)) (y 1)
  · refine (congrArg _ (?_ : _ = ix2 0 (y 0 : Fin 256))).trans (scale_eq x hh (y 0))
    funext a
    fin_cases a
    · rfl
    · exact Fin.ext (by show ((y 0).val * 8192 + (y 1).val) / 8192 % 256 = (y 0).val; omega)

omit hh in
/-- The second results agree. -/
theorem result1 (hh : IsSigns signs) (r1 : Vec Ideal Cert.ReferenceIdeal.S1x256x3072 .bf16) :
    val_main_v60 (F := Ideal) v q s z r1 = Y1 (flat v) q s z := by
  funext y
  have h0 : (y 0).val < 256 := (y 0).isLt
  have h1 : (y 1).val < 8192 := (y 1).isLt
  rw [val_main_v60_apply, val_main_v58_apply, val_main_v53_apply]
  refine (congrArg _ (?_ : _ = ix3 1 (y 0 : Fin 256) (y 1 : Fin 8192))).trans ((product_apply v r1 q s z 1 (y 0) (y 1)).trans ?_)
  · funext a
    fin_cases a
    · rfl
    · exact Fin.ext (by show ((y 0).val * 8192 + (y 1).val) / 8192 % 256 = (y 0).val; omega)
    · exact Fin.ext (by show ((y 0).val * 8192 + (y 1).val) % 8192 = (y 1).val; omega)
  · exact product_eq q s z (fun k => val_main_v30 (F := Ideal) v r1 (ix3 1 (y 0) k)) (fun k => rotA (flat v) signs (y 0) k)
      (fun k => (rows_one v r1 (y 0) k).trans (rotA_eq v hh (y 0) k).symm) (y 1)

/-- The third results agree. -/
theorem result2 : val_main_v61 (F := Ideal) (k0_pay3 (F := Ideal) (val_main_v28 (F := Ideal) x)) = codes (flat x) h := by
  funext y
  rw [val_main_v61_apply]
  refine (congrArg _ (?_ : _ = ix3 0 (y 0 : Fin 256) (y 1 : Fin 3072))).trans (code_eq x hh (y 0) (y 1))
  funext a
  have h0 : (y 0).val < 256 := (y 0).isLt
  have h1 : (y 1).val < 3072 := (y 1).isLt
  fin_cases a
  · rfl
  · exact Fin.ext (by show ((y 0).val * 3072 + (y 1).val) / 3072 % 256 = (y 0).val; omega)
  · exact Fin.ext (by show ((y 0).val * 3072 + (y 1).val) % 3072 = (y 1).val; omega)

/-- The fourth results agree. -/
theorem result3 : val_main_v62 (F := Ideal) (k0_pay2 (F := Ideal) (val_main_v28 (F := Ideal) x)) = scales (flat x) h := by
  funext y
  rw [val_main_v62_apply]
  refine (congrArg _ (?_ : _ = ix2 0 (y 0 : Fin 256))).trans (scale_eq x hh (y 0))
  funext a
  have h0 : (y 0).val < 256 := (y 0).isLt
  have h1 : (y 1).val < 1 := (y 1).isLt
  fin_cases a
  · rfl
  · exact Fin.ext (by show ((y 0).val * 1 + (y 1).val) % 256 = (y 0).val; omega)

end Cert.Agree

end
-- ==== Proof.Results.lean ====
/- What each program leaves in its results, as functions of its arguments. -/
module

public import proofs.«01_k».proof.Proof.Agree

@[expose] public section

set_option maxRecDepth 16384

noncomputable section

namespace Cert.Agree

open Cert.KernelIdeal.Contents Cert.KernelIdeal.Values Cert.Spec
open Idealize.ShloMosaic Idealize.ShloMosaic.TcCoe Idealize.SL.Sem

section kernel
open Cert.KernelIdeal Cert.KernelIdeal.Gen Cert.KernelIdeal.Region

variable (m : (ℓ : Loc nD τ sig) → Buf (Elt Ideal) ℓ) (ρ : Dev nD → PrngReg)

/-- The kernel's results and arguments at the end of every run. -/
theorem kernel_run : θ_run (defs (F := Ideal)) (onTc (τ := τ) (main (F := Ideal))) ⟨m, fun _ => 0, ρ⟩ (fun r => ∀ c : Dev nD,
      r.2.mem ((c.tc : Thread nD τ).loc main_v2_0) = Y0 (flat (m ((c.tc : Thread nD τ).loc main_arg0))) (m ((c.tc : Thread nD τ).loc main_arg2)) (m ((c.tc : Thread nD τ).loc main_arg3)) (m ((c.tc : Thread nD τ).loc main_arg4))
      ∧ r.2.mem ((c.tc : Thread nD τ).loc main_v2_1) = Y1 (flat (m ((c.tc : Thread nD τ).loc main_arg1))) (m ((c.tc : Thread nD τ).loc main_arg2)) (m ((c.tc : Thread nD τ).loc main_arg3)) (m ((c.tc : Thread nD τ).loc main_arg4))
      ∧ r.2.mem ((c.tc : Thread nD τ).loc main_v2_2) = codes (flat (m ((c.tc : Thread nD τ).loc main_arg0))) signs
      ∧ r.2.mem ((c.tc : Thread nD τ).loc main_v2_3) = scales (flat (m ((c.tc : Thread nD τ).loc main_arg0))) signs
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1.out_eq c 6).trans (final6 m c), (h.1.out_eq c 7).trans (final7 m c),
    (h.1.out_eq c 8).trans (final8 m c), (h.1.out_eq c 9).trans (final9 m c), h.2 c⟩) (θ_run_and (run_main m ρ) (unchanged m ρ))

end kernel

section reference
open Cert.ReferenceIdeal Cert.ReferenceIdeal.Gen Cert.ReferenceIdeal.Value Cert.ReferenceIdeal.Quant Cert.ReferenceIdeal.Read

variable (m : (ℓ : Loc nD τ sig) → Buf (Elt Ideal) ℓ) (ρ : Dev nD → PrngReg) (hh : IsSigns signs)
include hh

/-- The reference's results and arguments at the end of every run, where the kernel's table is two copies of its matrix. -/
theorem reference_run : θ_run (defs (F := Ideal)) (onTc (τ := τ) (main (F := Ideal))) ⟨m, fun _ => 0, ρ⟩ (fun r => ∀ c : Dev nD,
      r.2.mem ((c.tc : Thread nD τ).loc main_v59) = Y0 (flat (m ((c.tc : Thread nD τ).loc main_arg0))) (m ((c.tc : Thread nD τ).loc main_arg2)) (m ((c.tc : Thread nD τ).loc main_arg3)) (m ((c.tc : Thread nD τ).loc main_arg4))
      ∧ r.2.mem ((c.tc : Thread nD τ).loc main_v60) = Y1 (flat (m ((c.tc : Thread nD τ).loc main_arg1))) (m ((c.tc : Thread nD τ).loc main_arg2)) (m ((c.tc : Thread nD τ).loc main_arg3)) (m ((c.tc : Thread nD τ).loc main_arg4))
      ∧ r.2.mem ((c.tc : Thread nD τ).loc main_v61) = codes (flat (m ((c.tc : Thread nD τ).loc main_arg0))) signs
      ∧ r.2.mem ((c.tc : Thread nD τ).loc main_v62) = scales (flat (m ((c.tc : Thread nD τ).loc main_arg0))) signs
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun _ h c => ?_) (run (F := Ideal) m ρ)
  obtain ⟨h0, h1, h2, h3, ha⟩ := h c
  have r0 : exitV m c (Proc.devRef .tc main_v14_0) = _ := (exit_main_v14_0 m c).trans (final1 m c)
  have r1 : exitV m c (Proc.devRef .tc main_v14_1) = _ := (exit_main_v14_1 m c).trans (final2 m c)
  have r2 : exitV m c (Proc.devRef .tc main_v14_2) = _ := (exit_main_v14_2 m c).trans (final3 m c)
  have e0 : val_main_v59 (F := Ideal) (exitV m c (Proc.devRef .tc main_arg1)) (exitV m c (Proc.devRef .tc main_arg2)) (exitV m c (Proc.devRef .tc main_arg3)) (exitV m c (Proc.devRef .tc main_arg4)) (exitV m c (Proc.devRef .tc main_v14_1)) (exitV m c (Proc.devRef .tc main_v14_2))
      = Y0 (flat (m ((c.tc : Thread nD τ).loc main_arg0))) (m ((c.tc : Thread nD τ).loc main_arg2)) (m ((c.tc : Thread nD τ).loc main_arg3)) (m ((c.tc : Thread nD τ).loc main_arg4)) := by
    rw [r1, r2, exit_main_arg1, exit_main_arg2, exit_main_arg3, exit_main_arg4]
    exact result0 _ _ _ _ _ hh
  have e1 : val_main_v60 (F := Ideal) (exitV m c (Proc.devRef .tc main_arg1)) (exitV m c (Proc.devRef .tc main_arg2)) (exitV m c (Proc.devRef .tc main_arg3)) (exitV m c (Proc.devRef .tc main_arg4)) (exitV m c (Proc.devRef .tc main_v14_1))
      = Y1 (flat (m ((c.tc : Thread nD τ).loc main_arg1))) (m ((c.tc : Thread nD τ).loc main_arg2)) (m ((c.tc : Thread nD τ).loc main_arg3)) (m ((c.tc : Thread nD τ).loc main_arg4)) := by
    rw [r1, exit_main_arg1, exit_main_arg2, exit_main_arg3, exit_main_arg4]
    exact result1 _ _ _ _ hh _
  have e2 : val_main_v61 (F := Ideal) (exitV m c (Proc.devRef .tc main_v14_0)) = codes (flat (m ((c.tc : Thread nD τ).loc main_arg0))) signs := by
    rw [r0]
    exact result2 _ hh
  have e3 : val_main_v62 (F := Ideal) (exitV m c (Proc.devRef .tc main_v14_2)) = scales (flat (m ((c.tc : Thread nD τ).loc main_arg0))) signs := by
    rw [r2]
    exact result3 _ hh
  exact ⟨h0.trans ((val_main_v59_eq (F := Ideal) (exitV m c)).trans e0), h1.trans ((val_main_v60_eq (F := Ideal) (exitV m c)).trans e1),
    h2.trans ((val_main_v61_eq (F := Ideal) (exitV m c)).trans e2), h3.trans ((val_main_v62_eq (F := Ideal) (exitV m c)).trans e3), ha⟩

end reference

end Cert.Agree

end
-- ==== Proof.Table.lean ====
/- The table of signs that the kernel multiplies by, as a rule: entry (i, j) is the sign (−1)^(i · j), where i · j counts the
   ones that the last seven binary digits of i and j share, inside the two diagonal blocks of 128, and zero outside them. -/
module

public import proofs.«01_k».proof.KernelIdeal
public import proofs.«01_k».proof.Proof.Odd

@[expose] public section

noncomputable section

namespace Cert.Spec

open Idealize.ShloMosaic

/-- The bit pattern of an entry of the table of signs. -/
def signBits (i j : ℕ) : BitVec 16 :=
  bif i / 128 == j / 128 then (bif odd 7 i j then 0xBF80#16 else 0x3F80#16) else (bif odd 7 i j then 0x8000#16 else 0#16)

set_option maxHeartbeats 4000000 in
/-- The table, sixteen rows at a time. -/
theorem table_rows : ∀ a : Fin 16, ∀ b : Fin 16, ∀ j : Fin 256,
    Cert.KernelIdeal.lit0t (256 * (16 * a.val + b.val) + j.val) = signBits (16 * a.val + b.val) j.val := by
  intro a
  fin_cases a <;> decide +kernel

/-- The table. -/
theorem table (i j : Fin 256) : Cert.KernelIdeal.lit0t (256 * i.val + j.val) = signBits i.val j.val := by
  have h := table_rows ⟨i.val / 16, by omega⟩ ⟨i.val % 16, by omega⟩ j
  have e : 16 * (i.val / 16) + i.val % 16 = i.val := by omega
  simpa only [e] using h

end Cert.Spec

end
-- ==== Proof.SignTable.lean ====
/- The kernel's table of signs, read as numbers: two copies of the reference's matrix on the diagonal and zero elsewhere. -/
module

public import proofs.«01_k».proof.Proof.Agree
public import proofs.«01_k».proof.Proof.Table

@[expose] public section

noncomputable section

namespace Cert.Agree

open Cert.KernelIdeal.Values Cert.Spec
open Idealize.ShloMosaic

theorem bits_one : Ideal.ofBits .bf16 0x3F80#16 = 1 := by simp [Ideal.ofBits, Ideal.ieee, -EReal.coe_mul]; norm_num

theorem bits_neg_one : Ideal.ofBits .bf16 0xBF80#16 = -1 := by simp [Ideal.ofBits, Ideal.ieee, -EReal.coe_mul]; norm_num

theorem bits_neg_zero : Ideal.ofBits .bf16 0x8000#16 = 0 := by simp [Ideal.ofBits, Ideal.ieee, -EReal.coe_mul]

theorem bits_zero : Ideal.ofBits .bf16 0#16 = 0 := by simp [Ideal.ofBits, Ideal.ieee, -EReal.coe_mul]

theorem signs_isSigns : IsSigns signs := by
  intro k c
  have e : Cert.KernelIdeal.lit0 (Cert.KernelIdeal.S256x256.rowMajor (ix2 k c)) = signBits k.val c.val := by
    refine Eq.trans ?_ (table k c)
    have hr : (Cert.KernelIdeal.S256x256.rowMajor (ix2 k c)).val = 256 * k.val + c.val := by
      rw [Shape.rowMajor_val_two]
      show _ = _
      simp [ix2]
      omega
    show Cert.KernelIdeal.lit0t (Cert.KernelIdeal.S256x256.rowMajor (ix2 k c)).val = _
    rw [hr]
  show Ideal.ofBits .bf16 (Cert.KernelIdeal.lit0 (Cert.KernelIdeal.S256x256.rowMajor (ix2 k c))) = _
  rw [e]
  by_cases hb : k.val / 128 = c.val / 128
  · have hd : (k.val / 128 == c.val / 128) = true := beq_iff_eq.2 hb
    rw [if_pos hb, signBits, hd]
    cases odd 7 k.val c.val
    · exact bits_one
    · exact bits_neg_one
  · have hd : (k.val / 128 == c.val / 128) = false := beq_eq_false_iff_ne.2 hb
    rw [if_neg hb, signBits, hd]
    cases odd 7 k.val c.val
    · exact bits_zero
    · exact bits_neg_zero

end Cert.Agree

end
-- ==== Proof.Algebraic.lean ====
/- The kernel and the reference leave the same results, over numbers without rounding. -/
module

public import proofs.«01_k».proof.Proof.Results
public import proofs.«01_k».proof.Proof.SignTable
public import proofs.«01_k».proof.Defs

@[expose] public section

noncomputable section

namespace Cert.Agree

open Cert.KernelIdeal.Values Cert.Spec
open Idealize.ShloMosaic Idealize.SL.Sem

theorem algebraic : Cert.algebraic_KernelIdeal_ReferenceIdeal (hKernelIdeal := Cert.KernelIdeal.Gen.facts) (hReferenceIdeal := Cert.ReferenceIdeal.Gen.facts) := by
  intro m g m' g' _ he
  refine ⟨_, _, _, _, kernel_run m g, (θ_run Cert.ReferenceIdeal.defs _ _).mono (fun _ h c => ?_) (reference_run m' g' signs_isSigns)⟩
  obtain ⟨h0, h1, h2, h3, ha⟩ := h c
  obtain ⟨a0, a1, a2, a3, a4⟩ := he c
  rw [a0, a2, a3, a4] at h0
  rw [a1, a2, a3, a4] at h1
  rw [a0] at h2 h3
  exact ⟨h0, h1, h2, h3, ha⟩

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Region
public import proofs.«01_k».proof.Proof.Same
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Same.frame m ρ, fun m ρ _ => Cert.KernelIdeal.Region.frame m ρ, fun m ρ _ => Cert.ReferenceIdeal.Gen.frame m ρ, trivial, Cert.Agree.algebraic⟩

end Cert.Proof

end
